-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x16 : Shape := ⟨2, ![1000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x16 .f32) (main_arg3 : FVec F S1000000x16 .f32) (main_arg4 : FVec F S32x64 .f32) (main_arg5 : FVec F S64 .f32) (main_arg6 : FVec F S64x32 .f32) (main_arg7 : FVec F S32 .f32) (main_arg8 : FVec F S32x16 .f32) (main_arg9 : FVec F S16 .f32) (main_arg10 : FVec F S16x8 .f32) (main_arg11 : FVec F S8 .f32) (main_arg12 : FVec F S8x4 .f32) (main_arg13 : FVec F S4 .f32) (main_arg14 : FVec F S4x1 .f32) (main_arg15 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 1000000#32
  let main_v8 : IVec S16384 32 := broadcastInDim S16384 ![] bcast_S_S16384 main_c_2
  let main_v9 : IVec S16384 1 := cmpi .slt main_arg1 main_v8
  let main_v10 : IVec S16384 1 := andi main_v7 main_v9
  let main_c_3 : IVec S_ 1 := constantI S_ 1 1#1
  let main_v11 : IVec S_ 1 := (fun x v => Host.reduce IntOp.andi x v reducesTo_S16384_S_d0 h_S_) main_v10 main_c_3
  main_v11
-- ==== Kernel.lean ====
abbrev S16384 : Shape := ⟨1, ![16384]⟩
abbrev S1000000x16 : Shape := ⟨2, ![1000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S16384x16 : Shape := ⟨2, ![16384, 16]⟩
abbrev S512 : Shape := ⟨1, ![512]⟩
abbrev S512x16 : Shape := ⟨2, ![512, 16]⟩
abbrev S_ : Shape := ⟨0, ![]⟩
abbrev S1x64 : Shape := ⟨2, ![1, 64]⟩
abbrev S1x32 : Shape := ⟨2, ![1, 32]⟩
abbrev S1x16 : Shape := ⟨2, ![1, 16]⟩
abbrev S1x8 : Shape := ⟨2, ![1, 8]⟩
abbrev S1x4 : Shape := ⟨2, ![1, 4]⟩
abbrev S1x1 : Shape := ⟨2, ![1, 1]⟩
abbrev S16384x1 : Shape := ⟨2, ![16384, 1]⟩
abbrev S4096x16 : Shape := ⟨2, ![4096, 16]⟩
abbrev S4096x1 : Shape := ⟨2, ![4096, 1]⟩
abbrev S16x64 : Shape := ⟨2, ![16, 64]⟩
abbrev S4096x64 : Shape := ⟨2, ![4096, 64]⟩
abbrev S4096x32 : Shape := ⟨2, ![4096, 32]⟩
abbrev S4096x8 : Shape := ⟨2, ![4096, 8]⟩
abbrev S4096x4 : Shape := ⟨2, ![4096, 4]⟩

abbrev nBuf : Table → Nat
  | .hbm => 25
  | .local .tc .vmem => 18
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S8x4, .f32⟩
  | .hbm, ⟨13, _⟩ => ⟨S4, .f32⟩
  | .hbm, ⟨14, _⟩ => ⟨S4x1, .f32⟩
  | .hbm, ⟨15, _⟩ => ⟨S1, .f32⟩
  | .hbm, ⟨16, _⟩ => ⟨S16384x16, .f32⟩
  | .hbm, ⟨17, _⟩ => ⟨S16384x16, .f32⟩
  | .hbm, ⟨18, _⟩ => ⟨S1x64, .f32⟩
  | .hbm, ⟨19, _⟩ => ⟨S1x32, .f32⟩
  | .hbm, ⟨20, _⟩ => ⟨S1x16, .f32⟩
  | .hbm, ⟨21, _⟩ => ⟨S1x8, .f32⟩
  | .hbm, ⟨22, _⟩ => ⟨S1x4, .f32⟩
  | .hbm, ⟨23, _⟩ => ⟨S1x1, .f32⟩
  | .hbm, ⟨24, _⟩ => ⟨S16384x1, .f32⟩
  | .local .tc .vmem, ⟨0, _⟩ => ⟨S4096x16, .f32⟩
  | .local .tc .vmem, ⟨1, _⟩ => ⟨S4096x16, .f32⟩
  | .local .tc .vmem, ⟨2, _⟩ => ⟨S4096x16, .f32⟩
  | .local .tc .vmem, ⟨3, _⟩ => ⟨S4096x16, .f32⟩
  | .local .tc .vmem, ⟨4, _⟩ => ⟨S32x64, .f32⟩
  | .local .tc .vmem, ⟨5, _⟩ => ⟨S1x64, .f32⟩
  | .local .tc .vmem, ⟨6, _⟩ => ⟨S64x32, .f32⟩
  | .local .tc .vmem, ⟨7, _⟩ => ⟨S1x32, .f32⟩
  | .local .tc .vmem, ⟨8, _⟩ => ⟨S32x16, .f32⟩
  | .local .tc .vmem, ⟨9, _⟩ => ⟨S1x16, .f32⟩
  | .local .tc .vmem, ⟨10, _⟩ => ⟨S16x8, .f32⟩
  | .local .tc .vmem, ⟨11, _⟩ => ⟨S1x8, .f32⟩
  | .local .tc .vmem, ⟨12, _⟩ => ⟨S8x4, .f32⟩
  | .local .tc .vmem, ⟨13, _⟩ => ⟨S1x4, .f32⟩
  | .local .tc .vmem, ⟨14, _⟩ => ⟨S4x1, .f32⟩
  | .local .tc .vmem, ⟨15, _⟩ => ⟨S1x1, .f32⟩
  | .local .tc .vmem, ⟨16, _⟩ => ⟨S4096x1, .f32⟩
  | .local .tc .vmem, ⟨17, _⟩ => ⟨S4096x1, .f32⟩
  | .local .scVector .vmem, ⟨0, _⟩ => ⟨S512, .i32⟩
  | .local .scVector .vmem, ⟨1, _⟩ => ⟨S512, .i32⟩
  | .local .scVector .vmem, ⟨2, _⟩ => ⟨S512x16, .f32⟩
  | .local .scVector .vmem, ⟨3, _⟩ => ⟨S512x16, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 16, rfl⟩
abbrev main_v0_1_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg14_1 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem14_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r2 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x4 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x4 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S4096x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x16 : Shape := ⟨2, ![1000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x16 : Shape := ⟨2, ![16384, 16]⟩
abbrev S16384x32 : Shape := ⟨2, ![16384, 32]⟩
abbrev S16384x64 : Shape := ⟨2, ![16384, 64]⟩
abbrev S1x64 : Shape := ⟨2, ![1, 64]⟩
abbrev S1x32 : Shape := ⟨2, ![1, 32]⟩
abbrev S1x16 : Shape := ⟨2, ![1, 16]⟩
abbrev S16384x8 : Shape := ⟨2, ![16384, 8]⟩
abbrev S1x8 : Shape := ⟨2, ![1, 8]⟩
abbrev S16384x4 : Shape := ⟨2, ![16384, 4]⟩
abbrev S1x4 : Shape := ⟨2, ![1, 4]⟩

abbrev nBuf : Space → Nat
  | .hbm => 105
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x16, .f32⟩
  | .hbm, ⟨3, _⟩ => ⟨S1000000x16, .f32⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x8, .f32⟩
  | .hbm, ⟨11, _⟩ => ⟨S8, .f32⟩
  | .hbm, ⟨12, _⟩ => ⟨S8x4, .f32⟩
  | .hbm, ⟨13, _⟩ => ⟨S4, .f32⟩
  | .hbm, ⟨14, _⟩ => ⟨S4x1, .f32⟩
  | .hbm, ⟨15, _⟩ => ⟨S1, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S1x1, .i32⟩
  | .hbm, ⟨29, _⟩ => ⟨S16384x1, .i32⟩
  | .hbm, ⟨30, _⟩ => ⟨S16384x1, .i1⟩
  | .hbm, ⟨31, _⟩ => ⟨S16384x1, .i1⟩
  | .hbm, ⟨32, _⟩ => ⟨S_, .i1⟩
  | .hbm, ⟨33, _⟩ => ⟨S16384, .i1⟩
  | .hbm, ⟨34, _⟩ => ⟨S16384x16, .f32⟩
  | .hbm, ⟨35, _⟩ => ⟨S16384x16, .i1⟩
  | .hbm, ⟨36, _⟩ => ⟨S_, .f32⟩
  | .hbm, ⟨37, _⟩ => ⟨S16384x16, .f32⟩
  | .hbm, ⟨38, _⟩ => ⟨S16384x16, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S1, .i32⟩
  | .hbm, ⟨48, _⟩ => ⟨S_, .i32⟩
  | .hbm, ⟨49, _⟩ => ⟨S16384x1, .i32⟩
  | .hbm, ⟨50, _⟩ => ⟨S16384x1, .i1⟩
  | .hbm, ⟨51, _⟩ => ⟨S1x1, .i32⟩
  | .hbm, ⟨52, _⟩ => ⟨S16384x1, .i32⟩
  | .hbm, ⟨53, _⟩ => ⟨S16384x1, .i1⟩
  | .hbm, ⟨54, _⟩ => ⟨S16384x1, .i1⟩
  | .hbm, ⟨55, _⟩ => ⟨S_, .i1⟩
  | .hbm, ⟨56, _⟩ => ⟨S16384, .i1⟩
  | .hbm, ⟨57, _⟩ => ⟨S16384x16, .f32⟩
  | .hbm, ⟨58, _⟩ => ⟨S16384x16, .i1⟩
  | .hbm, ⟨59, _⟩ => ⟨S_, .f32⟩
  | .hbm, ⟨60, _⟩ => ⟨S16384x16, .f32⟩
  | .hbm, ⟨61, _⟩ => ⟨S16384x16, .f32⟩
  | .hbm, ⟨62, _⟩ => ⟨S16384x32, .f32⟩
  | .hbm, ⟨63, _⟩ => ⟨S16384x64, .f32⟩
  | .hbm, ⟨64, _⟩ => ⟨S1x64, .f32⟩
  | .hbm, ⟨65, _⟩ => ⟨S16384x64, .f32⟩
  | .hbm, ⟨66, _⟩ => ⟨S16384x64, .f32⟩
  | .hbm, ⟨67, _⟩ => ⟨S16384x32, .f32⟩
  | .hbm, ⟨68, _⟩ => ⟨S1x32, .f32⟩
  | .hbm, ⟨69, _⟩ => ⟨S16384x32, .f32⟩
  | .hbm, ⟨70, _⟩ => ⟨S16384x32, .f32⟩
  | .hbm, ⟨71, _⟩ => ⟨S_, .f32⟩
  | .hbm, ⟨72, _⟩ => ⟨S16384x32, .f32⟩
  | .hbm, ⟨73, _⟩ => ⟨S16384x32, .f32⟩
  | .hbm, ⟨74, _⟩ => ⟨S16384x16, .f32⟩
  | .hbm, ⟨75, _⟩ => ⟨S1x16, .f32⟩
  | .hbm, ⟨76, _⟩ => ⟨S16384x16, .f32⟩
  | .hbm, ⟨77, _⟩ => ⟨S16384x16, .f32⟩
  | .hbm, ⟨78, _⟩ => ⟨S_, .f32⟩
  | .hbm, ⟨79, _⟩ => ⟨S16384x16, .f32⟩
  | .hbm, ⟨80, _⟩ => ⟨S16384x16, .f32⟩
  | .hbm, ⟨81, _⟩ => ⟨S16384x8, .f32⟩
  | .hbm, ⟨82, _⟩ => ⟨S1x8, .f32⟩
  | .hbm, ⟨83, _⟩ => ⟨S16384x8, .f32⟩
  | .hbm, ⟨84, _⟩ => ⟨S16384x8, .f32⟩
  | .hbm, ⟨85, _⟩ => ⟨S_, .f32⟩
  | .hbm, ⟨86, _⟩ => ⟨S16384x8, .f32⟩
  | .hbm, ⟨87, _⟩ => ⟨S16384x8, .f32⟩
  | .hbm, ⟨88, _⟩ => ⟨S16384x4, .f32⟩
  | .hbm, ⟨89, _⟩ => ⟨S1x4, .f32⟩
  | .hbm, ⟨90, _⟩ => ⟨S16384x4, .f32⟩
  | .hbm, ⟨91, _⟩ => ⟨S16384x4, .f32⟩
  | .hbm, ⟨92, _⟩ => ⟨S_, .f32⟩
  | .hbm, ⟨93, _⟩ => ⟨S16384x4, .f32⟩
  | .hbm, ⟨94, _⟩ => ⟨S16384x4, .f32⟩
  | .hbm, ⟨95, _⟩ => ⟨S16384x1, .f32⟩
  | .hbm, ⟨96, _⟩ => ⟨S1x1, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S_, .f32⟩
  | .hbm, ⟨103, _⟩ => ⟨S16384x1, .f32⟩
  | .hbm, ⟨104, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v1 : Ref sig .tc := ⟨.hbm, 61, rfl⟩
abbrev main_v2 : Ref sig .tc := ⟨.hbm, 62, rfl⟩
abbrev main_v3 : Ref sig .tc := ⟨.hbm, 63, rfl⟩
abbrev main_v4 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_call2_cst : Ref sig .tc := ⟨.hbm, 71, rfl⟩
abbrev main_call2_v0 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_call3_cst : Ref sig .tc := ⟨.hbm, 78, rfl⟩
abbrev main_call3_v0 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_call4_cst : Ref sig .tc := ⟨.hbm, 85, rfl⟩
abbrev main_call4_v0 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_call5_cst : Ref sig .tc := ⟨.hbm, 92, rfl⟩
abbrev main_call5_v0 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_call6_cst : Ref sig .tc := ⟨.hbm, 99, rfl⟩
abbrev main_call6_v0 : Ref sig .tc := ⟨.hbm, 100, rfl⟩
abbrev main_v31 : Ref sig .tc := ⟨.hbm, 101, rfl⟩
abbrev main_call7_cst : Ref sig .tc := ⟨.hbm, 102, rfl⟩
abbrev main_call7_v0 : Ref sig .tc := ⟨.hbm, 103, rfl⟩
abbrev main_v32 : Ref sig .tc := ⟨.hbm, 104, rfl⟩

abbrev nD : Nat := 1
abbrev τ : Topo := Topo.v7x

variable {F : FTy → Type} [FloatOps F]
-- ==== Proof.Setup.lean ====
/-
  The kernel program as the launch theorem of the SparseCore sees it, and the buffers its one SparseCore call works on:
  two lists of 16384 row numbers, two tables of a million rows of sixteen numbers, and two results of 16384 such rows.
  Thirty-two tiles (two cores of sixteen) each answer for 512 of the row numbers; this file cuts the lists and the
  results into those thirty-two blocks, the tables into thirty-two reading shares, and says what a tile is given and
  what it brings back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Twin

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the call's handshakes, the dense region's staging, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays of the call -/

variable (m : (ℓ : Loc nD τ sig) → Buf (Elt F) ℓ)

abbrev cLoc (d : Dev nD) : Loc nD τ sig := (SparseCore.T d).loc main_arg0
abbrev uLoc (d : Dev nD) : Loc nD τ sig := (SparseCore.T d).loc main_arg1
abbrev ctLoc (d : Dev nD) : Loc nD τ sig := (SparseCore.T d).loc main_arg2
abbrev utLoc (d : Dev nD) : Loc nD τ sig := (SparseCore.T d).loc main_arg3
abbrev coLoc (d : Dev nD) : Loc nD τ sig := (SparseCore.T d).loc main_v0_0
abbrev uoLoc (d : Dev nD) : Loc nD τ sig := (SparseCore.T d).loc main_v0_1

theorem idiv : 32 ∣ S16384.size 0 := ⟨512, rfl⟩
theorem odiv : 32 ∣ S16384x16.size 0 := ⟨512, rfl⟩

/-- The `w`-th block of 512 of the row numbers. -/
abbrev iRect (w : Fin 32) : Rect S16384 := Rect.part (s := S16384) (a₀ := 0) idiv w
/-- The `w`-th block of 512 of the result's rows. -/
abbrev oRect (w : Fin 32) : Rect S16384x16 := Rect.part (s := S16384x16) (a₀ := 0) odiv w
/-- The `w`-th reading share of a table. -/
abbrev tShare (w : Fin 32) : PosShare TreeShare := pieceOf fullShare 32 (by decide) w

/-- The index `k` of a list of row numbers. -/
def at1 (k : Fin 16384) : S16384.Idx | 0 => k
/-- Entry `c` of row `r` of a table. -/
def at2 (r : Fin 1000000) (c : Fin 16) : S1000000x16.Idx | 0 => r | 1 => c

/-- The rows of `tab` that `ix` names: row `j` of the result is row `ix j` of the table. -/
def pick {α : Type} (tab : S1000000x16.Idx → α) (ix : S16384.Idx → BitVec 32) : S16384x16.Idx → α := fun j =>
  tab (at2 ⟨(ix (at1 (j 0))).toNat % 1000000, Nat.mod_lt _ (by decide)⟩ (j 1))

/-- What the two results hold after the call. -/
abbrev cOut (d : Dev nD) : Buf (Elt F) (coLoc d) := pick (m (ctLoc d)) (m (cLoc d))
abbrev uOut (d : Dev nD) : Buf (Elt F) (uoLoc d) := pick (m (utLoc d)) (m (uLoc d))

/-- A tile's holding: its block of each list, its share of each table, its block of each result, the results at `fc` and `fu`. -/
def hold (d : Dev nD) (fc : Buf (Elt F) (coLoc d)) (fu : Buf (Elt F) (uoLoc d)) (w : Fin 32) : sProp 𝕄 :=
  iprop((cLoc d ↦[(iRect w).set]{fullShare} m (cLoc d)) ∗ (uLoc d ↦[(iRect w).set]{fullShare} m (uLoc d))
    ∗ (ctLoc d ↦{tShare w} m (ctLoc d)) ∗ (utLoc d ↦{tShare w} m (utLoc d))
    ∗ (coLoc d ↦[(oRect w).set]{fullShare} fc) ∗ (uoLoc d ↦[(oRect w).set]{fullShare} fu))

instance hold_storable (d : Dev nD) (fc : Buf (Elt F) (coLoc d)) (fu : Buf (Elt F) (uoLoc d)) (w : Fin 32) :
    BI.Storable (upEmb : UEmb _ 𝕄) (hold m d fc fu w) := by unfold hold; infer_instance

/-- The block answered for by tile `i` of core `c`. -/
abbrev wk (c : Fin 2) (i : Fin 16) : Fin 32 := (finProdFinEquiv (i, c) : Fin (16 * 2))

theorem wk_val (c : Fin 2) (i : Fin 16) : (wk c i).val = c.val + 2 * i.val := rfl

/-- The call hands each core its sixteen tiles' holdings, each tile its own, and takes them back with the picked rows. -/
def P : (K (F := F)).Pay (nD := nD) (Val := Elt F) (Name := ℕ) (U := UU) where
  st := fun q d c => match q with | 0 => bigSep Finset.univ fun i : Fin 16 => hold m d (m (coLoc d)) (m (uoLoc d)) (wk c i)
  dn := fun q d c => match q with | 0 => bigSep Finset.univ fun i : Fin 16 => hold m d (cOut m d) (uOut m d) (wk c i)
  go := fun q d c i => match q with | 0 => hold m d (m (coLoc d)) (m (uoLoc d)) (wk c i)
  td := fun q d c i => match q with | 0 => hold m d (cOut m d) (uOut m d) (wk c i)
  x := fun _ _ => iprop(emp)

instance P_storable : (P (F := F) m).IsStorable where
  st q d c := match q with
    | 0 => (inferInstance : BI.Storable (upEmb : UEmb _ 𝕄) (bigSep Finset.univ fun i : Fin 16 => hold m d (m (coLoc d)) (m (uoLoc d)) (wk c i)))
  dn q d c := match q with
    | 0 => (inferInstance : BI.Storable (upEmb : UEmb _ 𝕄) (bigSep Finset.univ fun i : Fin 16 => hold m d (cOut m d) (uOut m d) (wk c i)))
  go q d c i := match q with
    | 0 => (inferInstance : BI.Storable (upEmb : UEmb _ 𝕄) (hold m d (m (coLoc d)) (m (uoLoc d)) (wk c i)))
  td q d c i := match q with
    | 0 => (inferInstance : BI.Storable (upEmb : UEmb _ 𝕄) (hold m d (cOut m d) (uOut m d) (wk c i)))

/-- The row numbers all name rows of the tables. -/
def InRange : Prop := ∀ (d : Dev nD) (j : S16384.Idx), (m (cLoc d) j).toNat < 1000000 ∧ (m (uLoc d) j).toNat < 1000000

/-! ## The whole arrays and the thirty-two holdings -/

theorem iCut (w w' : Fin 32) (h : w ≠ w') : Disjoint (iRect w).set (iRect w').set := Rect.part_disjoint idiv h
theorem oCut (w w' : Fin 32) (h : w ≠ w') : Disjoint (oRect w).set (oRect w').set := Rect.part_disjoint odiv h

/-- The six arrays held whole are the thirty-two tiles' holdings. -/
theorem whole_eq (d : Dev nD) (fc : Buf (Elt F) (coLoc d)) (fu : Buf (Elt F) (uoLoc d)) :
    (iprop((cLoc d ↦{fullShare} m (cLoc d)) ∗ (uLoc d ↦{fullShare} m (uLoc d)) ∗ (ctLoc d ↦{fullShare} m (ctLoc d))
      ∗ (utLoc d ↦{fullShare} m (utLoc d)) ∗ (coLoc d ↦{fullShare} fc) ∗ (uoLoc d ↦{fullShare} fu)) : sProp 𝕄)
      = bigSep Finset.univ fun w : Fin 32 => hold m d fc fu w := by
  have e1 : ∀ f : Buf (Elt F) (cLoc d), (cLoc d ↦{fullShare} f : sProp 𝕄) = bigSep Finset.univ fun w : Fin 32 => cLoc d ↦[(iRect w).set]{fullShare} f := fun f => by
    rw [← pointsTo_biUnion Finset.univ (ℓ := cLoc d) (fun w => (iRect w).set) fun w _ w' _ h => iCut w w' h, Rect.biUnion_part idiv]
  have e2 : ∀ f : Buf (Elt F) (uLoc d), (uLoc d ↦{fullShare} f : sProp 𝕄) = bigSep Finset.univ fun w : Fin 32 => uLoc d ↦[(iRect w).set]{fullShare} f := fun f => by
    rw [← pointsTo_biUnion Finset.univ (ℓ := uLoc d) (fun w => (iRect w).set) fun w _ w' _ h => iCut w w' h, Rect.biUnion_part idiv]
  have e5 : ∀ f : Buf (Elt F) (coLoc d), (coLoc d ↦{fullShare} f : sProp 𝕄) = bigSep Finset.univ fun w : Fin 32 => coLoc d ↦[(oRect w).set]{fullShare} f := fun f => by
    rw [← pointsTo_biUnion Finset.univ (ℓ := coLoc d) (fun w => (oRect w).set) fun w _ w' _ h => oCut w w' h, Rect.biUnion_part odiv]
  have e6 : ∀ f : Buf (Elt F) (uoLoc d), (uoLoc d ↦{fullShare} f : sProp 𝕄) = bigSep Finset.univ fun w : Fin 32 => uoLoc d ↦[(oRect w).set]{fullShare} f := fun f => by
    rw [← pointsTo_biUnion Finset.univ (ℓ := uoLoc d) (fun w => (oRect w).set) fun w _ w' _ h => oCut w w' h, Rect.biUnion_part odiv]
  unfold hold
  rw [bigSep_sep', bigSep_sep', bigSep_sep', bigSep_sep', bigSep_sep', ← e1, ← e2, ← e5, ← e6]
  rw [← pointsTo_piecesOf Finset.univ (m (ctLoc d)) (by decide) fullShare,
    ← pointsTo_piecesOf Finset.univ (m (utLoc d)) (by decide) fullShare]

/-- The thirty-two holdings are the two cores' sixteen. -/
theorem cores_eq (Φ : Fin 32 → sProp 𝕄) :
    bigSep Finset.univ Φ = bigSep Finset.univ fun c : Fin 2 => bigSep Finset.univ fun i : Fin 16 => Φ (wk c i) := by
  rw [bigSep_univ_equiv (finProdFinEquiv : Fin 16 × Fin 2 ≃ Fin 32) Φ, bigSep_univ_prod, bigSep_univ_comm]

end Cert.Proof.Twin

end
-- ==== Proof.Tile.lean ====
/-
  One tile's task. The tile fetches its 512 row numbers of each list, gathers the rows they name from the two tables,
  both streams in flight together, and writes the gathered rows to its block of the two results. What it leaves there is
  stated exactly: the block of the rows picked out of the table.
-/
module

public import proofs.«01_k».proof.Proof.Setup

@[expose] public section

noncomputable section

namespace Cert.Proof.Twin

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "cV" => (Memref.whole Cert.KernelIdeal.main_arg0_scv : Memref Cert.KernelIdeal.sig Kind.scVector Space.hbm Cert.KernelIdeal.S16384 EltTy.i32)
local notation "uV" => (Memref.whole Cert.KernelIdeal.main_arg1_scv : Memref Cert.KernelIdeal.sig Kind.scVector Space.hbm Cert.KernelIdeal.S16384 EltTy.i32)
local notation "ctV" => (Memref.whole Cert.KernelIdeal.main_arg2_scv : Memref Cert.KernelIdeal.sig Kind.scVector Space.hbm Cert.KernelIdeal.S1000000x16 EltTy.f32)
local notation "utV" => (Memref.whole Cert.KernelIdeal.main_arg3_scv : Memref Cert.KernelIdeal.sig Kind.scVector Space.hbm Cert.KernelIdeal.S1000000x16 EltTy.f32)
local notation "coV" => (Memref.whole Cert.KernelIdeal.main_v0_0_scv : Memref Cert.KernelIdeal.sig Kind.scVector Space.hbm Cert.KernelIdeal.S16384x16 EltTy.f32)
local notation "uoV" => (Memref.whole Cert.KernelIdeal.main_v0_1_scv : Memref Cert.KernelIdeal.sig Kind.scVector Space.hbm Cert.KernelIdeal.S16384x16 EltTy.f32)
local notation "ciV" => (Memref.whole Cert.KernelIdeal.cc0_scratch0 : Memref Cert.KernelIdeal.sig Kind.scVector Space.vmem Cert.KernelIdeal.S512 EltTy.i32)
local notation "uiV" => (Memref.whole Cert.KernelIdeal.cc0_scratch1 : Memref Cert.KernelIdeal.sig Kind.scVector Space.vmem Cert.KernelIdeal.S512 EltTy.i32)
local notation "crV" => (Memref.whole Cert.KernelIdeal.cc0_scratch2 : Memref Cert.KernelIdeal.sig Kind.scVector Space.vmem Cert.KernelIdeal.S512x16 EltTy.f32)
local notation "urV" => (Memref.whole Cert.KernelIdeal.cc0_scratch3 : Memref Cert.KernelIdeal.sig Kind.scVector Space.vmem Cert.KernelIdeal.S512x16 EltTy.f32)

variable (m : (ℓ : Loc nD τ sig) → Buf (Elt F) ℓ)
variable (d : Dev nD) (L : grid0.Coords)

/-! ## The tile and its blocks -/

abbrev core (L : grid0.Coords) : Fin τ.nSC := (L 0).castLE hcore0
abbrev sub (L : grid0.Coords) : Fin τ.nSub := (L 1).castLE hsub0
/-- The tile's thread. -/
abbrev thr (d : Dev nD) (L : grid0.Coords) : Thread nD τ := V d (core L) (sub L)
/-- The tile's block. -/
abbrev blk (L : grid0.Coords) : Fin 32 := wk ⟨(L 0).val, (L 0).isLt⟩ ⟨(L 1).val, (L 1).isLt⟩

theorem blk_val : (blk L).val = (L 0).val + 2 * (L 1).val := rfl

abbrev iRectK (L : grid0.Coords) : Rect S16384 := Rect.unit (s := S16384) (k0_off1 L) S512.size (k0_off1_inb L)
abbrev oRectK (L : grid0.Coords) : Rect S16384x16 := Rect.unit (s := S16384x16) (k0_off2 L) S512x16.size (k0_off2_inb L)
abbrev cK (L : grid0.Coords) : Memref sig .scVector .hbm S512 .i32 := (cV).slice (iRectK L) (fun _ => rfl)
abbrev uK (L : grid0.Coords) : Memref sig .scVector .hbm S512 .i32 := (uV).slice (iRectK L) (fun _ => rfl)
abbrev coK (L : grid0.Coords) : Memref sig .scVector .hbm S512x16 .f32 := (coV).slice (oRectK L) (fun _ => rfl)
abbrev uoK (L : grid0.Coords) : Memref sig .scVector .hbm S512x16 .f32 := (uoV).slice (oRectK L) (fun _ => rfl)

theorem iRectK_eq : iRectK L = iRect (blk L) := by
  unfold iRectK iRect Rect.part Rect.block
  congr 1 <;> funext a <;> match a with
  | 0 => simp [k0_off1_eq, Shape.partIx, Shape.partSize, blk_val]; try omega

theorem oRectK_eq : oRectK L = oRect (blk L) := by
  unfold oRectK oRect Rect.part Rect.block
  congr 1 <;> funext a <;> match a with
  | 0 => simp [k0_off2_eq, Shape.partIx, Shape.partSize, blk_val]; try omega
  | 1 => simp [k0_off2_eq, Shape.partIx, Shape.partSize]

theorem set_iK : (cK L).view.set = (iRect (blk L)).set := by
  rw [← iRectK_eq]; exact View.set_slice_whole _ _
theorem set_iK' : (uK L).view.set = (iRect (blk L)).set := by
  rw [← iRectK_eq]; exact View.set_slice_whole _ _
theorem set_oK : (coK L).view.set = (oRect (blk L)).set := by
  rw [← oRectK_eq]; exact View.set_slice_whole _ _
theorem set_oK' : (uoK L).view.set = (oRect (blk L)).set := by
  rw [← oRectK_eq]; exact View.set_slice_whole _ _

/-- A tile's holding in the words of its own thread. -/
theorem hold_eq (fc : Buf (Elt F) (coLoc d)) (fu : Buf (Elt F) (uoLoc d)) :
    hold m d fc fu (blk L) = (iprop(((cK L).view.loc (thr d L) ↦[(cK L).view.set]{fullShare} m (cLoc d))
      ∗ ((uK L).view.loc (thr d L) ↦[(uK L).view.set]{fullShare} m (uLoc d))
      ∗ ((ctV).view.loc (thr d L) ↦{tShare (blk L)} m (ctLoc d)) ∗ ((utV).view.loc (thr d L) ↦{tShare (blk L)} m (utLoc d))
      ∗ ((coK L).view.loc (thr d L) ↦[(coK L).view.set]{fullShare} fc)
      ∗ ((uoK L).view.loc (thr d L) ↦[(uoK L).view.set]{fullShare} fu)) : sProp 𝕄) := by
  rw [set_iK, set_iK', set_oK, set_oK']; rfl

/-! ## The tile's own semaphores and scratch -/

abbrev cell (d : Dev nD) (L : grid0.Coords) (s : DmaSems sig S_) : GSem nD τ sig := (thr d L, .dma s.sem)

theorem cell_mem (s : DmaSems sig S_) (h : (SemLoc.dma s.sem : SemLoc sig).isScoped .scVector = true) : cell d L s ∈ ownCells (thr d L) :=
  mem_ownCells.mpr ⟨rfl, h⟩

theorem cell_ne {s s' : DmaSems sig S_} (h : s.sem ≠ s'.sem) : cell d L s ≠ cell d L s' := fun e => h (by
  have := congrArg Prod.snd e; injection this)

/-- The cells left when the six the task waits on are taken out. -/
abbrev cellsRest (d : Dev nD) (L : grid0.Coords) : Finset (GSem nD τ sig) :=
  ((((((ownCells (thr d L)).erase (cell d L cc0_scratch4)).erase (cell d L cc0_scratch5)).erase (cell d L cc0_scoped0)).erase
    (cell d L cc0_scoped1)).erase (cell d L cc0_scoped2)).erase (cell d L cc0_scoped3)

theorem sems_eq :
    (ownSems0 (thr d L) : sProp 𝕄)
      = iprop(semVal (cell d L cc0_scratch4) 0 ∗ semVal (cell d L cc0_scratch5) 0 ∗ semVal (cell d L cc0_scoped0) 0
          ∗ semVal (cell d L cc0_scoped1) 0 ∗ semVal (cell d L cc0_scoped2) 0 ∗ semVal (cell d L cc0_scoped3) 0
          ∗ bigSep (cellsRest d L) fun g => semVal g 0) := by
  unfold SparseCore.Cfg.ownSems0
  rw [SparseCore.bigSep_erase' (cell_mem d L cc0_scratch4 (by decide)),
    SparseCore.bigSep_erase' (i := cell d L cc0_scratch5) (by
      simp only [Finset.mem_erase]; exact ⟨cell_ne d L (by decide), cell_mem d L _ (by decide)⟩),
    SparseCore.bigSep_erase' (i := cell d L cc0_scoped0) (by
      simp only [Finset.mem_erase]; exact ⟨cell_ne d L (by decide), cell_ne d L (by decide), cell_mem d L _ (by decide)⟩),
    SparseCore.bigSep_erase' (i := cell d L cc0_scoped1) (by
      simp only [Finset.mem_erase]; exact ⟨cell_ne d L (by decide), cell_ne d L (by decide), cell_ne d L (by decide), cell_mem d L _ (by decide)⟩),
    SparseCore.bigSep_erase' (i := cell d L cc0_scoped2) (by
      simp only [Finset.mem_erase]
      exact ⟨cell_ne d L (by decide), cell_ne d L (by decide), cell_ne d L (by decide), cell_ne d L (by decide), cell_mem d L _ (by decide)⟩),
    SparseCore.bigSep_erase' (i := cell d L cc0_scoped3) (by
      simp only [Finset.mem_erase]
      exact ⟨cell_ne d L (by decide), cell_ne d L (by decide), cell_ne d L (by decide), cell_ne d L (by decide), cell_ne d L (by decide),
        cell_mem d L _ (by decide)⟩)]

/-- The tile's own array `b`. -/
abbrev own' (L : grid0.Coords) (b : Ref sig .scVector) : DevRef τ sig := (Proc.scVector (core L) (sub L)).devRef b

theorem own_ne {b b' : Ref sig .scVector} (h : b ≠ b') : own' L b ≠ own' L b' := fun e => h (Proc.devRef_injective _ e)

/-- The arrays left when the four scratches are taken out. -/
abbrev refsRest (L : grid0.Coords) : Finset (DevRef τ sig) :=
  ((((ownRefs (τ := τ) (.scVector (core L) (sub L))).erase (own' L cc0_scratch0)).erase (own' L cc0_scratch1)).erase
    (own' L cc0_scratch2)).erase (own' L cc0_scratch3)

theorem bufs_eq :
    (ownBufs (thr d L) : sProp 𝕄)
      = iprop((∃ f, (ciV).view.loc (thr d L) ↦{fullShare} f) ∗ (∃ f, (uiV).view.loc (thr d L) ↦{fullShare} f)
          ∗ (∃ f, (crV).view.loc (thr d L) ↦{fullShare} f) ∗ (∃ f, (urV).view.loc (thr d L) ↦{fullShare} f)
          ∗ bigSep (refsRest L) fun b => iprop(∃ f, ((d, b) : Loc nD τ sig) ↦{fullShare} f)) := by
  have hm (b : Ref sig .scVector) (h : (own' L b).owner = _) := SparseCore.Cfg.mem_ownRefs_of_owner (p := Proc.scVector (core L) (sub L)) (b := own' L b) h
  unfold SparseCore.Cfg.ownBufs
  refine (SparseCore.bigSep_erase' (hm cc0_scratch0 rfl)).trans ?_
  rw [SparseCore.bigSep_erase' (i := own' L cc0_scratch1) (by
      simp only [Finset.mem_erase]; exact ⟨own_ne L (by decide), hm _ rfl⟩),
    SparseCore.bigSep_erase' (i := own' L cc0_scratch2) (by
      simp only [Finset.mem_erase]; exact ⟨own_ne L (by decide), own_ne L (by decide), hm _ rfl⟩),
    SparseCore.bigSep_erase' (i := own' L cc0_scratch3) (by
      simp only [Finset.mem_erase]; exact ⟨own_ne L (by decide), own_ne L (by decide), own_ne L (by decide), hm _ rfl⟩)]

/-! ## The task -/

variable [FloatOps F]

/-- The row numbers fetched name rows of the table. -/
theorem c_inb (hpre : InRange m) (f : (ciV).view.ty.Contents (Elt F)) (pay : S512.Idx → Elt F .i32) (hp : pay = (cK L).view.read (Elt F) (m (cLoc d))) (j : S512.Idx) :
    ((ciV).view.read (Elt F) (View.write (Elt F) (ciV).view f pay Finset.univ) j).toNat < S1000000x16.size gathers_S1000000x16_S512x16.axis := by
  subst hp
  rw [View.write_whole_univ]
  exact (hpre d ((cK L).view.emb j)).1
theorem u_inb (hpre : InRange m) (f : (uiV).view.ty.Contents (Elt F)) (pay : S512.Idx → Elt F .i32) (hp : pay = (uK L).view.read (Elt F) (m (uLoc d))) (j : S512.Idx) :
    ((uiV).view.read (Elt F) (View.write (Elt F) (uiV).view f pay Finset.univ) j).toNat < S1000000x16.size gathers_S1000000x16_S512x16.axis := by
  subst hp
  rw [View.write_whole_univ]
  exact (hpre d ((uK L).view.emb j)).2

omit [FloatOps F] in
/-- The index a list of 512 counts as its `k`-th. -/
theorem nth_val (k : Fin S512.numel) : ((S512.rowMajor.symm k) 0).val = k.val := by
  have e := congrArg Fin.val (S512.rowMajor.apply_symm_apply k)
  rwa [Shape.rowMajor_val_one] at e

omit [FloatOps F] in
/-- The rows a tile's stream lands are its block of the rows picked. -/
theorem stream_at {α : Type} (tab : S1000000x16.Idx → α) (ix : S16384.Idx → BitVec 32) (w : S512.Idx → BitVec 32)
    (hw : ∀ j, w j = ix ((iRectK L).emb j)) (hn : S512.numel = S512x16.size gathers_S1000000x16_S512x16.axis')
    (hin : ∀ j, (w j).toNat < S1000000x16.size gathers_S1000000x16_S512x16.axis) (x : S512x16.Idx) :
    tab ((Rect.unit (s := S1000000x16) ![0, 0] S1000000x16.size inb_S1000000x16_S1000000x16_0_0).emb
        (gathers_S1000000x16_S512x16.idx (fun k => ⟨(w (S512.rowMajor.symm (k.cast hn.symm))).toNat, hin _⟩) x))
      = pick tab ix ((oRectK L).emb x) := by
  unfold pick
  congr 1
  funext a
  apply Fin.ext
  match a with
  | 0 =>
    have e := gathers_S1000000x16_S512x16.idx_axis (fun k => (⟨(w (S512.rowMajor.symm (k.cast hn.symm))).toNat, hin _⟩ : Fin _)) x
    rw [Rect.emb_apply]
    have e' : ((gathers_S1000000x16_S512x16.idx (fun k => ⟨(w (S512.rowMajor.symm (k.cast hn.symm))).toNat, hin _⟩) x) 0).val
        = (w (S512.rowMajor.symm ((x 0).cast hn.symm))).toNat := congrArg Fin.val e
    have hj : (iRectK L).emb (S512.rowMajor.symm ((x 0).cast hn.symm)) = at1 ((oRectK L).emb x 0) := by
      funext b; apply Fin.ext
      match b with
      | 0 =>
        show ((iRectK L).emb _ 0).val = ((oRectK L).emb x 0).val
        rw [Rect.emb_apply, Rect.emb_apply, nth_val]
        simp only [Rect.unit, k0_off1_eq, k0_off2_eq]
        rfl
    have hlt := hin (S512.rowMajor.symm ((x 0).cast hn.symm))
    have hwj := (hw _).trans (congrArg ix hj)
    refine Eq.trans ?_ (congrArg (fun v : BitVec 32 => v.toNat % 1000000) hwj)
    refine Eq.trans ?_ (Nat.mod_eq_of_lt hlt).symm
    refine Eq.trans ?_ e'
    simp [Rect.unit]
  | 1 =>
    have e := gathers_S1000000x16_S512x16.idx_of_ne (fun k => (⟨(w (S512.rowMajor.symm (k.cast hn.symm))).toNat, hin _⟩ : Fin _)) x 1 (by decide)
    rw [Rect.emb_apply, e]
    show (![0, 0] : Fin 2 → Nat) 1 + 1 * (x 1).val = ((oRectK L).emb x 1).val
    rw [Rect.emb_apply]
    simp [k0_off2_eq]

omit [FloatOps F] in
/-- A view written all over reads what was written. -/
theorem read_full {κ : Kind} {sp : Space} {s : Shape} {e : EltTy} (v : View sig κ sp s e) (f : v.ty.Contents (Elt F)) (w : s.Idx → Elt F e) :
    v.read (Elt F) (v.writes (Elt F) f [⟨Rect.whole s, w⟩]) = w := by
  have h := View.write_univ_eq_writes_whole (Val := Elt F) v f [] w
  rw [View.writes_nil] at h
  rw [← h, View.read_write_univ]

/-- What the two write-backs leave in the tile's blocks. -/
theorem c_left (f : (coV).view.ty.Contents (Elt F)) (w : S512x16.Idx → Elt F .f32)
    (hw : ∀ x, w x = cOut m d ((oRectK L).emb x)) :
    ((coK L).view.loc (thr d L) ↦[(coK L).view.set]{fullShare} ((coK L).view.writes (Elt F) f [⟨Rect.whole S512x16, w⟩]) : sProp 𝕄)
      = (coK L).view.loc (thr d L) ↦[(coK L).view.set]{fullShare} cOut m d := by
  refine pointsTo_congr fun i hi => ?_
  obtain ⟨x, -, rfl⟩ := Finset.mem_map.mp hi
  have e := View.write_univ_eq_writes_whole (Val := Elt F) (coK L).view f [] w
  rw [View.writes_nil] at e
  rw [← e, View.write_emb_of_mem _ _ (Finset.mem_univ _)]
  exact hw x
theorem u_left (f : (uoV).view.ty.Contents (Elt F)) (w : S512x16.Idx → Elt F .f32)
    (hw : ∀ x, w x = uOut m d ((oRectK L).emb x)) :
    ((uoK L).view.loc (thr d L) ↦[(uoK L).view.set]{fullShare} ((uoK L).view.writes (Elt F) f [⟨Rect.whole S512x16, w⟩]) : sProp 𝕄)
      = (uoK L).view.loc (thr d L) ↦[(uoK L).view.set]{fullShare} uOut m d := by
  refine pointsTo_congr fun i hi => ?_
  obtain ⟨x, -, rfl⟩ := Finset.mem_map.mp hi
  have e := View.write_univ_eq_writes_whole (Val := Elt F) (uoK L).view f [] w
  rw [View.writes_nil] at e
  rw [← e, View.write_emb_of_mem _ _ (Finset.mem_univ _)]
  exact hw x

set_option maxHeartbeats 4000000 in
/-- The task: from the tile's holding to the tile's holding with the picked rows in its blocks of the results. -/
theorem tile_body (hpre : InRange m) (O : CellTallies nD τ sig (HIx 1)) (W : Waits sig (HIx 1)) (hO : ∀ g, O g none = 0) :
    iprop(levAts (K (F := F)).L (K (F := F)).lev ∗ emp ∗ hold m d (m (coLoc d)) (m (uoLoc d)) (blk L)
        ∗ scopedBufs (thr d L) ∗ scopedSems0 (thr d L) ∗ owes (thr d L) O W)
      ⊢ wp frame (wpE (defs₀ (F := F)) 𝒱₀ (thr d L) none) Set.univ
          (cc0__gather_body L cV (Memref.isWhole_whole _) uV (Memref.isWhole_whole _) ctV (Memref.isWhole_whole _) utV (Memref.isWhole_whole _)
            coV (Memref.isWhole_whole _) uoV (Memref.isWhole_whole _) ciV (Memref.isWhole_whole _) uiV (Memref.isWhole_whole _)
            crV (Memref.isWhole_whole _) urV (Memref.isWhole_whole _) cc0_scratch4 cc0_scratch5 cc0_scoped0 cc0_scoped1 cc0_scoped2 cc0_scoped3)
          fun _ => iprop(hold m d (cOut m d) (uOut m d) (blk L)
            ∗ scopedBufs (thr d L) ∗ scopedSems0 (thr d L)
            ∗ ∃ W', ⌜∀ p ∈ W', p ∈ W ∨ p.2 = none⌝ ∗ owes (thr d L) O W') := by
  simp only [cc0__gather_body_eq_skeleton]; unfold cc0__gather_body_skel
  rw [(K (F := F)).scopedBufs_V facts d (core L) (sub L), SparseCore.Cfg.scopedSems0_V (Val := Elt F) d (core L) (sub L), sems_eq, bufs_eq, hold_eq, hold_eq]
  iintro ⟨#Hlv, -, ⟨Hc, Hu, Hct, Hut, Hco, Huo⟩, ⟨⟨%fci, Hci⟩, ⟨%fui, Hui⟩, ⟨%fcr, Hcr⟩, ⟨%fur, Hur⟩, Hbufs⟩, ⟨H4, H5, H0, H1, H2, H3, Hsems⟩, HO⟩
  ihave Hmw := (show levAts (K (F := F)).L (K (F := F)).lev ⊢ Transfers.MayWaits (thr d L) (default : HIx 1) O from
    (K (F := F)).mayWaits_none (thr := thr d L) hO) $$ Hlv
  sl_exec
  have hcin := c_inb m d L hpre fci _ rfl
  have huin := u_inb m d L hpre fui _ rfl
  sl_exec
  sl_step
  isplitl [Hc Hu Hct Hut Hco Huo]
  · isplitl [Hc]; · iexact Hc
    isplitl [Hu]; · iexact Hu
    isplitl [Hct]; · iexact Hct
    isplitl [Hut]; · iexact Hut
    isplitl [Hco]
    · iapply (Entails.of_eq (c_left m d L _ _ fun x => ?_)) $$ Hco
      refine (congrFun (read_full (crV).view fcr _) x).trans ?_
      exact stream_at L (m (ctLoc d)) (m (cLoc d)) _ (fun j => by rw [View.write_whole_univ]; rfl) rfl hcin x
    · iapply (Entails.of_eq (u_left m d L _ _ fun x => ?_)) $$ Huo
      refine (congrFun (read_full (urV).view fur _) x).trans ?_
      exact stream_at L (m (utLoc d)) (m (uLoc d)) _ (fun j => by rw [View.write_whole_univ]; rfl) rfl huin x
  isplitl [Hci Hui Hcr Hur Hbufs]
  · isplitl [Hci]; · iexists _; iexact Hci
    isplitl [Hui]; · iexists _; iexact Hui
    isplitl [Hcr]; · iexists _; iexact Hcr
    isplitl [Hur]; · iexists _; iexact Hur
    iexact Hbufs
  isplitl [H4 H5 H0 H1 H2 H3 Hsems]
  · isplitl [H4]; · iexact H4
    isplitl [H5]; · iexact H5
    isplitl [H0]; · iexact H0
    isplitl [H1]; · iexact H1
    isplitl [H2]; · iexact H2
    isplitl [H3]; · iexact H3
    iexact Hsems
  iexists _; isplitr
  swap; · iexact HO
  ipureintro; intro p hp
  simp only [Finset.mem_insert] at hp
  rcases hp with rfl | rfl | rfl | rfl | rfl | rfl | hp
  iterate 6 exact .inr rfl
  exact .inl hp

/-! ## The task and the split as the launch theorem asks for them -/

/-- The grid point of core `c`, tile `s`. -/
def point (c : Fin (grid0.bound 0)) (s : Fin (grid0.bound 1)) : grid0.Coords :=
  fun | 0 => c | 1 => s | ⟨_ + 2, h⟩ => absurd h (Nat.not_lt.2 (Nat.le_add_left _ _))

theorem kernel_eq (c : Fin τ.nSC) (s : Fin τ.nSub) :
    defs₀ (F := F) (.scVector c s) 0 ()
      = SparseCore.onTile hcore0 hsub0 (fun c s => cc0__gather_body (point c s)
          cV (Memref.isWhole_whole _) uV (Memref.isWhole_whole _) ctV (Memref.isWhole_whole _) utV (Memref.isWhole_whole _)
            coV (Memref.isWhole_whole _) uoV (Memref.isWhole_whole _) ciV (Memref.isWhole_whole _) uiV (Memref.isWhole_whole _)
            crV (Memref.isWhole_whole _) urV (Memref.isWhole_whole _) cc0_scratch4 cc0_scratch5 cc0_scoped0 cc0_scoped1 cc0_scoped2 cc0_scoped3) ⟨⟩ c s := rfl

set_option maxRecDepth 16384 in
theorem tileObl (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [kernel_eq]; simp only [SparseCore.onTile, hci, and_self, ↓reduceDIte]
  refine (tile_body m d (point ⟨_, hci.1⟩ ⟨_, hci.2⟩) hpre O W hO).trans (wp_mono frame _ _ fun _ => ?_)
  iintro ⟨HA, HB, HC, %W', %hW', HO⟩
  isplitl [HA]; · exact BI.Entails.refl _
  isplitl [HB]; · iexact HB
  isplitl [HC]; · iexact HC
  iexists W'; isplitr
  · ipureintro; exact fun p hp => (hW' p hp).imp_right Or.inl
  · iexact HO

/-- A core's operands are its tiles', and its results theirs. -/
theorem vecSplit : (K (F := F)).VecSplit' (P m) 0 := by
  intro d c
  show (bigSep Finset.univ fun i : Fin 16 => hold m d (m (coLoc d)) (m (uoLoc d)) (wk c i)) ⊢ |={Set.univ}=> iprop(
      (bigSep Finset.univ fun i : Fin 16 => hold m d (m (coLoc d)) (m (uoLoc d)) (wk c i))
      ∗ ((bigSep Finset.univ fun i : Fin 16 => hold m d (cOut m d) (uOut m d) (wk c i))
        -∗ bigSep Finset.univ fun i : Fin 16 => hold m d (cOut m d) (uOut m d) (wk c i)))
  iintro H; imodintro
  isplitl [H]; · iexact H
  iintro H; iexact H

end Cert.Proof.Twin

end
-- ==== Proof.Dense.lean ====
/-
  The dense kernel's body at one grid point: fifteen staging buffers, fourteen read and the last written. What it
  leaves is a function of the fourteen blocks, `denseBlock`.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop

@[expose] public section

noncomputable section

namespace Cert.Proof.Twin

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The upper and the lower sixteen rows of the first layer's weights. -/
abbrev wTop (w : Vec F S32x64 .f32) : Vec F S16x64 .f32 := View.ld w (Rect.unit (s := S32x64) ![0, 0] S16x64.size inb_S32x64_S16x64_0_0)
abbrev wBot (w : Vec F S32x64 .f32) : Vec F S16x64 .f32 := View.ld w (Rect.unit (s := S32x64) ![16, 0] S16x64.size inb_S32x64_S16x64_16_0)

/-- The layers applied to a block of 4096 pairs of rows. -/
def denseBlock (xc xu : Vec F S4096x16 .f32) (w0 : Vec F S32x64 .f32) (b0 : Vec F S1x64 .f32) (w1 : Vec F S64x32 .f32) (b1 : Vec F S1x32 .f32)
    (w2 : Vec F S32x16 .f32) (b2 : Vec F S1x16 .f32) (w3 : Vec F S16x8 .f32) (b3 : Vec F S1x8 .f32) (w4 : Vec F S8x4 .f32) (b4 : Vec F S1x4 .f32)
    (w5 : Vec F S4x1 .f32) (b5 : Vec F S1x1 .f32) : Vec F S4096x1 .f32 :=
  k1_pay1 (k1_pay2 xc (wTop w0) xu (wBot w0) b0 w1 b1 w2 b2 w3) b3 w4 b4 w5 b5

theorem zeros2 : (![0, 0] : Fin 2 → ℕ) = fun _ => 0 := funext fun a => by fin_cases a <;> rfl

/-- A load through the whole box reads everything, -/
theorem load_all {s : Shape} (v : View sig .tc .vmem s .f32) (f : v.ty.Contents (Elt F)) (off : Fin s.rank → ℕ) (h : off = fun _ => 0)
    (inb : ∀ a, off a + s.size a ≤ s.size a) : v.readAt (Elt F) (Rect.unit off s.size inb).toLoadRect f = v.read (Elt F) f :=
  (View.readAt_eq_ld v f _).trans (View.ld_unit_zero h inb _)

/-- and a store through it leaves what it wrote. -/
theorem store_all {s : Shape} (v : View sig .tc .vmem s .f32) (f : v.ty.Contents (Elt F)) (off : Fin s.rank → ℕ) (h : off = fun _ => 0)
    (inb : ∀ a, off a + s.size a ≤ s.size a) (w : Vec F s .f32) :
    v.read (Elt F) (v.writes (Elt F) f [⟨Rect.unit off s.size inb, w⟩]) = w := by
  subst h
  have e := View.write_univ_eq_writes_whole (Val := Elt F) v f [] w
  rw [View.writes_nil] at e
  exact (congrArg (v.read (Elt F)) e.symm).trans (View.read_write_univ ..)

/-- A whole memref held at what it reads. -/
abbrev hd (c : Dev nD) {s : Shape} (M : Memref sig .tc .vmem s .f32) (X : Vec F s .f32) : sProp 𝕄 := owns (c : Thread nD τ) M fullShare X

set_option maxHeartbeats 4000000 in
theorem dense_run (c : Dev nD) (i : grid1.Coords)
    (M1 : Memref sig .tc .vmem S4096x16 .f32) (h1 : M1.IsWhole) (M2 : Memref sig .tc .vmem S4096x16 .f32) (h2 : M2.IsWhole)
    (M3 : Memref sig .tc .vmem S32x64 .f32) (h3 : M3.IsWhole) (M4 : Memref sig .tc .vmem S1x64 .f32) (h4 : M4.IsWhole)
    (M5 : Memref sig .tc .vmem S64x32 .f32) (h5 : M5.IsWhole) (M6 : Memref sig .tc .vmem S1x32 .f32) (h6 : M6.IsWhole)
    (M7 : Memref sig .tc .vmem S32x16 .f32) (h7 : M7.IsWhole) (M8 : Memref sig .tc .vmem S1x16 .f32) (h8 : M8.IsWhole)
    (M9 : Memref sig .tc .vmem S16x8 .f32) (h9 : M9.IsWhole) (M10 : Memref sig .tc .vmem S1x8 .f32) (h10 : M10.IsWhole)
    (M11 : Memref sig .tc .vmem S8x4 .f32) (h11 : M11.IsWhole) (M12 : Memref sig .tc .vmem S1x4 .f32) (h12 : M12.IsWhole)
    (M13 : Memref sig .tc .vmem S4x1 .f32) (h13 : M13.IsWhole) (M14 : Memref sig .tc .vmem S1x1 .f32) (h14 : M14.IsWhole)
    (M15 : Memref sig .tc .vmem S4096x1 .f32) (h15 : M15.IsWhole)
    (X1 X2 : Vec F S4096x16 .f32) (X3 : Vec F S32x64 .f32) (X4 : Vec F S1x64 .f32) (X5 : Vec F S64x32 .f32) (X6 : Vec F S1x32 .f32)
    (X7 : Vec F S32x16 .f32) (X8 : Vec F S1x16 .f32) (X9 : Vec F S16x8 .f32) (X10 : Vec F S1x8 .f32) (X11 : Vec F S8x4 .f32) (X12 : Vec F S1x4 .f32)
    (X13 : Vec F S4x1 .f32) (X14 : Vec F S1x1 .f32) (X15 : Vec F S4096x1 .f32) (Q : PUnit → sProp 𝕄) :
    iprop(hd c M1 X1 ∗ hd c M2 X2 ∗ hd c M3 X3 ∗ hd c M4 X4 ∗ hd c M5 X5 ∗ hd c M6 X6 ∗ hd c M7 X7 ∗ hd c M8 X8 ∗ hd c M9 X9 ∗ hd c M10 X10
        ∗ hd c M11 X11 ∗ hd c M12 X12 ∗ hd c M13 X13 ∗ hd c M14 X14 ∗ hd c M15 X15
        ∗ (iprop(hd c M1 X1 ∗ hd c M2 X2 ∗ hd c M3 X3 ∗ hd c M4 X4 ∗ hd c M5 X5 ∗ hd c M6 X6 ∗ hd c M7 X7 ∗ hd c M8 X8 ∗ hd c M9 X9 ∗ hd c M10 X10
            ∗ hd c M11 X11 ∗ hd c M12 X12 ∗ hd c M13 X13 ∗ hd c M14 X14 ∗ hd c M15 (denseBlock X1 X2 X3 X4 X5 X6 X7 X8 X9 X10 X11 X12 X13 X14)) -∗ Q ⟨⟩))
      ⊢ wp frame (wpE (defs₀ (F := F)) Variants.none (c : Thread nD τ) none) Set.univ
          (cc1__mlp_body i M1 h1 M2 h2 M3 h3 M4 h4 M5 h5 M6 h6 M7 h7 M8 h8 M9 h9 M10 h10 M11 h11 M12 h12 M13 h13 M14 h14 M15 h15) Q := by
  simp only [cc1__mlp_body_eq_skeleton]; unfold cc1__mlp_body_skel
  simp only [k1_part1_eq_skeleton]; unfold k1_part1_skel
  unfold hd owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  sl_exec
  sl_step
  subst e1 e2 e3 e4 e5 e6 e7 e8 e9 e10 e11 e12 e13 e14
  iapply Hk
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  isplitl [H7]; · iexists f7; iframe; ipureintro; rfl
  isplitl [H8]; · iexists f8; iframe; ipureintro; rfl
  isplitl [H9]; · iexists f9; iframe; ipureintro; rfl
  isplitl [H10]; · iexists f10; iframe; ipureintro; rfl
  isplitl [H11]; · iexists f11; iframe; ipureintro; rfl
  isplitl [H12]; · iexists f12; iframe; ipureintro; rfl
  isplitl [H13]; · iexists f13; iframe; ipureintro; rfl
  isplitl [H14]; · iexists f14; iframe; ipureintro; rfl
  iexists _; iframe; ipureintro
  refine (store_all M15.view f15 _ zeros2 _ _).trans ?_
  unfold denseBlock
  exact congr (congr (congr (congr (congr (congrArg k1_pay1
    (congr (congr (congr (congr (congr (congr (congr (congr (congr (congrArg k1_pay2 (load_all M1.view f1 _ zeros2 _)) rfl) (load_all M2.view f2 _ zeros2 _)) rfl)
      (load_all M4.view f4 _ zeros2 _)) (load_all M5.view f5 _ zeros2 _)) (load_all M6.view f6 _ zeros2 _)) (load_all M7.view f7 _ zeros2 _))
      (load_all M8.view f8 _ zeros2 _)) (load_all M9.view f9 _ zeros2 _)))
    (load_all M10.view f10 _ zeros2 _)) (load_all M11.view f11 _ zeros2 _)) (load_all M12.view f12 _ zeros2 _)) (load_all M13.view f13 _ zeros2 _))
    (load_all M14.view f14 _ zeros2 _)

end Cert.Proof.Twin

end
-- ==== Proof.Region.lean ====
/-
  The dense kernel's launch as a segment of the TensorCore's program: four grid points, at each of which a block of 4096
  rows of each of the two picked arrays is fetched, the layers applied, and a block of 4096 results written back; the
  weights and the biases are fetched whole. It starts with every unscoped buffer at a valuation and ends with the result
  array overwritten, block by block, by `denseBlock`.
-/
module

public import proofs.«01_k».proof.Proof.Dense

@[expose] public section

noncomputable section

namespace Cert.Proof.Twin

open Cert.KernelIdeal Cert.KernelIdeal.Gen
open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

variable (V : (c : Dev nD) → (b : Ref sig .tc) → Buf (Elt F) ((c : Thread nD τ).loc b))

/-- The array behind window `w`. -/
abbrev arrOf (c : Dev nD) (w : Fin 15) : Buf (Elt F) ((cfg1.win w).arr.view.loc (c : Thread nD τ)) := V c (Pipeline.arrRef spec1 w)

/-- Window `w`'s block at point `t`, read off the array. -/
abbrev blkOf (c : Dev nD) (w : Fin 15) (t : Fin cfg1.N) : ((cfg1.win w).xblock (cfg1.grid.coords t)).Idx → Elt F (cfg1.win w).elt :=
  ((cfg1.win w).blk t).view.read (Elt F) (arrOf V c w)

/-- What point `t` writes back. -/
abbrev outBlk (c : Dev nD) (t : Fin cfg1.N) : Vec F S4096x1 .f32 :=
  denseBlock (blkOf V c 0 t) (blkOf V c 1 t) (blkOf V c 2 t) (blkOf V c 3 t) (blkOf V c 4 t) (blkOf V c 5 t) (blkOf V c 6 t) (blkOf V c 7 t)
    (blkOf V c 8 t) (blkOf V c 9 t) (blkOf V c 10 t) (blkOf V c 11 t) (blkOf V c 12 t) (blkOf V c 13 t)

/-- The waits the TensorCore may have recorded once its SparseCore call is over. -/
abbrev Seen (c : Dev nD) : Set (SemLoc sig × HIx 1) := {p | (K (F := F)).lev (T c, p.1) p.2 ≤ 8}

/-- The launch's proof data. -/
def dat (c : Dev nD) : Dat τ (Elt F) (HIx 1) ℕ UU ℕ (cfg1) c where
  A w := V c (Pipeline.arrRef spec1 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => blkOf V c 7 t
    | ⟨8, _⟩ => blkOf V c 8 t
    | ⟨9, _⟩ => blkOf V c 9 t
    | ⟨10, _⟩ => blkOf V c 10 t
    | ⟨11, _⟩ => blkOf V c 11 t
    | ⟨12, _⟩ => blkOf V c 12 t
    | ⟨13, _⟩ => blkOf V c 13 t
    | ⟨14, _⟩ => outBlk V c t
  Φ _ := Pipeline.scopedRest spec1 c
  q _ := fullShare
  owed _ := 0
  recorded _ := Seen (F := F) c

/-- An input's staging buffer holds its block whenever the body runs. -/
theorem found0 (c : Dev nD) (t : Fin cfg1.N) (d : (cfg1.win 0).block.Idx → Elt F (cfg1.win 0).elt) : (dat V c).before 0 t d = blkOf V c 0 t :=
  (dat V c).before_in_eq_fetched 0 rfl (fun _ => rfl) (fun _ _ _ => rfl) (fun _ => rfl) t d
theorem found1 (c : Dev nD) (t : Fin cfg1.N) (d : (cfg1.win 1).block.Idx → Elt F (cfg1.win 1).elt) : (dat V c).before 1 t d = blkOf V c 1 t :=
  (dat V c).before_in_eq_fetched 1 rfl (fun _ => rfl) (fun _ _ _ => rfl) (fun _ => rfl) t d
theorem found2 (c : Dev nD) (t : Fin cfg1.N) (d : (cfg1.win 2).block.Idx → Elt F (cfg1.win 2).elt) : (dat V c).before 2 t d = blkOf V c 2 t :=
  (dat V c).before_in_eq_fetched 2 rfl (fun _ => rfl) (fun _ _ _ => rfl) (fun _ => rfl) t d
theorem found3 (c : Dev nD) (t : Fin cfg1.N) (d : (cfg1.win 3).block.Idx → Elt F (cfg1.win 3).elt) : (dat V c).before 3 t d = blkOf V c 3 t :=
  (dat V c).before_in_eq_fetched 3 rfl (fun _ => rfl) (fun _ _ _ => rfl) (fun _ => rfl) t d
theorem found4 (c : Dev nD) (t : Fin cfg1.N) (d : (cfg1.win 4).block.Idx → Elt F (cfg1.win 4).elt) : (dat V c).before 4 t d = blkOf V c 4 t :=
  (dat V c).before_in_eq_fetched 4 rfl (fun _ => rfl) (fun _ _ _ => rfl) (fun _ => rfl) t d
theorem found5 (c : Dev nD) (t : Fin cfg1.N) (d : (cfg1.win 5).block.Idx → Elt F (cfg1.win 5).elt) : (dat V c).before 5 t d = blkOf V c 5 t :=
  (dat V c).before_in_eq_fetched 5 rfl (fun _ => rfl) (fun _ _ _ => rfl) (fun _ => rfl) t d
theorem found6 (c : Dev nD) (t : Fin cfg1.N) (d : (cfg1.win 6).block.Idx → Elt F (cfg1.win 6).elt) : (dat V c).before 6 t d = blkOf V c 6 t :=
  (dat V c).before_in_eq_fetched 6 rfl (fun _ => rfl) (fun _ _ _ => rfl) (fun _ => rfl) t d
theorem found7 (c : Dev nD) (t : Fin cfg1.N) (d : (cfg1.win 7).block.Idx → Elt F (cfg1.win 7).elt) : (dat V c).before 7 t d = blkOf V c 7 t :=
  (dat V c).before_in_eq_fetched 7 rfl (fun _ => rfl) (fun _ _ _ => rfl) (fun _ => rfl) t d
theorem found8 (c : Dev nD) (t : Fin cfg1.N) (d : (cfg1.win 8).block.Idx → Elt F (cfg1.win 8).elt) : (dat V c).before 8 t d = blkOf V c 8 t :=
  (dat V c).before_in_eq_fetched 8 rfl (fun _ => rfl) (fun _ _ _ => rfl) (fun _ => rfl) t d
theorem found9 (c : Dev nD) (t : Fin cfg1.N) (d : (cfg1.win 9).block.Idx → Elt F (cfg1.win 9).elt) : (dat V c).before 9 t d = blkOf V c 9 t :=
  (dat V c).before_in_eq_fetched 9 rfl (fun _ => rfl) (fun _ _ _ => rfl) (fun _ => rfl) t d
theorem found10 (c : Dev nD) (t : Fin cfg1.N) (d : (cfg1.win 10).block.Idx → Elt F (cfg1.win 10).elt) : (dat V c).before 10 t d = blkOf V c 10 t :=
  (dat V c).before_in_eq_fetched 10 rfl (fun _ => rfl) (fun _ _ _ => rfl) (fun _ => rfl) t d
theorem found11 (c : Dev nD) (t : Fin cfg1.N) (d : (cfg1.win 11).block.Idx → Elt F (cfg1.win 11).elt) : (dat V c).before 11 t d = blkOf V c 11 t :=
  (dat V c).before_in_eq_fetched 11 rfl (fun _ => rfl) (fun _ _ _ => rfl) (fun _ => rfl) t d
theorem found12 (c : Dev nD) (t : Fin cfg1.N) (d : (cfg1.win 12).block.Idx → Elt F (cfg1.win 12).elt) : (dat V c).before 12 t d = blkOf V c 12 t :=
  (dat V c).before_in_eq_fetched 12 rfl (fun _ => rfl) (fun _ _ _ => rfl) (fun _ => rfl) t d
theorem found13 (c : Dev nD) (t : Fin cfg1.N) (d : (cfg1.win 13).block.Idx → Elt F (cfg1.win 13).elt) : (dat V c).before 13 t d = blkOf V c 13 t :=
  (dat V c).before_in_eq_fetched 13 rfl (fun _ => rfl) (fun _ _ _ => rfl) (fun _ => rfl) t d

set_option maxHeartbeats 4000000 in
/-- The body at a point: the blocks found, the layers applied, the result's block left. -/
theorem body_obligation (c : Dev nD) : BodyObligation (dat V c) (defs₀ (F := F)) 𝒱₀ (none : HIx 1) Set.univ := fun t => by
  rw [bigSep_W1, bigSep_W1]
  rw [show (dat V c).Φ t.castSucc = Pipeline.scopedRest spec1 c from rfl, show (dat V c).Φ t.succ = Pipeline.scopedRest spec1 c from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [found0, found1, found2, found3, found4, found5, found6, found7, found8, found9, found10, found11, found12, found13]
  iapply (dense_run c (grid1.coords t) _ _ _ _ _ _ _ _ _ _ _ _ _ _ _ _ _ _ _ _ _ _ _ _ _ _ _ _ _ _
    (blkOf V c 0 t) (blkOf V c 1 t) (blkOf V c 2 t) (blkOf V c 3 t) (blkOf V c 4 t) (blkOf V c 5 t) (blkOf V c 6 t) (blkOf V c 7 t)
    (blkOf V c 8 t) (blkOf V c 9 t) (blkOf V c 10 t) (blkOf V c 11 t) (blkOf V c 12 t) (blkOf V c 13 t) ((dat V c).before 14 t d14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The result array -/

/-- The point at which row `r` of the result is computed, -/
def ptOf (i : S16384x1.Idx) : Fin cfg1.N := ⟨(i 0).val / 4096, by have h : (i 0).val < 16384 := (i 0).isLt; rw [show cfg1.N = 4 from N_1]; omega⟩
/-- and its place in that point's block. -/
def inBlk (i : S16384x1.Idx) : S4096x1.Idx
  | 0 => ⟨(i 0).val % 4096, Nat.mod_lt _ (by decide)⟩
  | 1 => i 1

/-- The result array after the launch. -/
def outAll (c : Dev nD) : Buf (Elt F) ((c : Thread nD τ).loc main_v7) := fun i : S16384x1.Idx => outBlk V c (ptOf i) (inBlk i)

theorem idx_14 (t : Fin cfg1.N) : win1_14.index t 0 = t.val ∧ win1_14.index t 1 = 0 := by
  rcases fin_N1 t with rfl | rfl | rfl | rfl <;> decide +kernel

theorem emb14_0 (t : Fin cfg1.N) (y : S4096x1.Idx) : ((win1_14.rect t).emb y 0 : ℕ) = t.val * 4096 + (y 0).val :=
  (win1_14.rect_emb_val t y 0).trans (by rw [(idx_14 t).1]; rfl)
theorem emb14_1 (t : Fin cfg1.N) (y : S4096x1.Idx) : ((win1_14.rect t).emb y 1 : ℕ) = (y 1).val :=
  win1_14.rect_emb_val_of_index_zero t 1 (idx_14 t).2 y

theorem ptOf_emb (t : Fin cfg1.N) (y : S4096x1.Idx) : ptOf ((win1_14.rect t).emb y) = t := by
  have e := emb14_0 t y
  have hy : (y 0).val < 4096 := (y 0).isLt
  apply Fin.ext
  show ((win1_14.rect t).emb y 0 : ℕ) / 4096 = t.val
  rw [e]; omega
theorem inBlk_emb (t : Fin cfg1.N) (y : S4096x1.Idx) : inBlk ((win1_14.rect t).emb y) = y := by
  have e := emb14_0 t y
  have e1 := emb14_1 t y
  have hy : (y 0).val < 4096 := (y 0).isLt
  funext a
  match a with
  | 0 => exact Fin.ext (show ((win1_14.rect t).emb y 0 : ℕ) % 4096 = (y 0).val by rw [e]; omega)
  | 1 => exact Fin.ext e1

/-- What point `t` writes back is its block of the result array, -/
theorem flushed_eq (c : Dev nD) (t : Fin cfg1.N) : (dat V c).flushed 14 t = (win1_14.blk t).view.read (Elt F) (outAll V c) := by
  funext y
  show outBlk V c t y = outBlk V c (ptOf ((win1_14.rect t).emb y)) (inBlk ((win1_14.rect t).emb y))
  exact (congrArg₂ (outBlk V c) (ptOf_emb t y) (inBlk_emb t y)).symm

theorem mem_blk14 (t : Fin cfg1.N) (i : S16384x1.Idx) (h0 : t.val * 4096 ≤ (i 0).val) (h1 : (i 0).val < t.val * 4096 + 4096) :
    i ∈ ((cfg1.win 14).blk t).view.set := by
  show i ∈ ((View.whole main_v7).slice (win1_14.rect t)).set
  have hi : (i 1).val < 1 := (i 1).isLt
  rw [View.set_slice_whole, Rect.mem_set_unit]
  have e : win1_14.index t 0 * win1_14.size 0 = t.val * 4096 ∧ win1_14.xsize (grid1.coords t) 0 = 4096
      ∧ win1_14.index t 1 * win1_14.size 1 = 0 ∧ win1_14.xsize (grid1.coords t) 1 = 1 := by
    rcases fin_N1 t with rfl | rfl | rfl | rfl <;> decide +kernel
  intro a
  match a with
  | ⟨0, _⟩ =>
    show win1_14.index t 0 * win1_14.size 0 ≤ (i 0).val ∧ (i 0).val < win1_14.index t 0 * win1_14.size 0 + win1_14.xsize (grid1.coords t) 0
    rw [e.1, e.2.1]; exact ⟨h0, h1⟩
  | ⟨1, _⟩ =>
    show win1_14.index t 1 * win1_14.size 1 ≤ (i 1).val ∧ (i 1).val < win1_14.index t 1 * win1_14.size 1 + win1_14.xsize (grid1.coords t) 1
    rw [e.2.2.1, e.2.2.2]; omega

/-- the four blocks make up the array, -/
theorem cover14 (i : S16384x1.Idx) : ∃ t : Fin cfg1.N, (cfg1.win 14).flush t = true ∧ i ∈ ((cfg1.win 14).blk t).view.set :=
  ⟨ptOf i, flush1_14 _, mem_blk14 _ i (show (i 0).val / 4096 * 4096 ≤ _ by omega) (show _ < (i 0).val / 4096 * 4096 + 4096 by omega)⟩

/-- and it ends at `outAll`. -/
theorem final14 (c : Dev nD) : (dat V c).arrAt 14 cfg1.N = outAll V c :=
  (dat V c).arrAt_eq_of_cover 14 (outAll V c) (fun t _ => flushed_eq V c t) cover14

/-! ## The launch as a segment -/

variable (adm : (p : Fin 1) → (pcfgs (F := F) p).Adm)

/-- The proof data, launch by launch: there is one. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

/-- What the core has recorded, nothing owed. -/
abbrev idle (c : Dev nD) : sProp 𝕄 :=
  iprop(∃ W, ⌜(K (F := F)).WBelow (T c) W 8⌝ ∗ owes (c : Thread nD τ) (0 : CellTallies nD τ sig (HIx 1)) W)

set_option backward.isDefEq.respectTransparency.types false in
/-- The launch, from the unscoped buffers at `V` to them at `Vp`: `V` with the result array at `outAll`. -/
def reg (hout : ∀ c, Vp c main_v7 = outAll V c) (hne : ∀ c (b : Ref sig .tc), b ≠ main_v7 → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idle c)
  post c := iprop(unscopedBufs c (Vp c) ∗ idle c)
  X _ := BI.emp
  Y _ := BI.emp
  Z c := Pipeline.unscopedRest (Ix := HIx 1) (Name := ℕ) (U := UU) (Lvl := ℕ) spec1 c (V c)
  hentry c := by
    rw [Pipeline.ownSems0_none]
    have take := Pipeline.arrays_of_unscopedBufs (p := 0) (pcfgs (F := F)) adm (pdats V adm) launch1.win launch1.arr_whole c
      ((pdats V adm 0 c).share_full fun _ => rfl) (V c) fun _ => rfl
    iintro ⟨⟨Hb, %W, %hW, HO⟩, -, -⟩
    ihave H := take $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hz
  hin c := by
    rw [show (pdats V adm 0 c).Φ 0 = Pipeline.scopedRest spec1 c from rfl]
    iintro ⟨-, -, Hr⟩; iexact Hr
  hout c := by
    rw [Pipeline.ownSems0_none, show (pdats V adm 0 c).Φ (Fin.last _) = Pipeline.scopedRest spec1 c from rfl]
    iintro Hr
    isplitr; · iempintro
    isplitr; · iempintro
    iexact Hr
  hexit c := by
    have give := Pipeline.unscopedBufs_of_arrays (p := 0) (pcfgs (F := F)) adm (Ix := HIx 1) (Name := ℕ) (U := UU) (Lvl := ℕ) launch1.win
      launch1.arr_whole c (pdats V adm) ((pdats V adm 0 c).share_full fun _ => rfl) (V c) (Vp c) ((pdats V adm 0 c).arrAt · cfg1.N)
      (fun w => by
        fin_cases w
        · exact ((pdats V adm 0 c).arrAt_in 0 rfl _).trans (hne c main_v0_0 (by decide)).symm
        · exact ((pdats V adm 0 c).arrAt_in 1 rfl _).trans (hne c main_v0_1 (by decide)).symm
        · exact ((pdats V adm 0 c).arrAt_in 2 rfl _).trans (hne c main_arg4 (by decide)).symm
        · exact ((pdats V adm 0 c).arrAt_in 3 rfl _).trans (hne c main_v1 (by decide)).symm
        · exact ((pdats V adm 0 c).arrAt_in 4 rfl _).trans (hne c main_arg6 (by decide)).symm
        · exact ((pdats V adm 0 c).arrAt_in 5 rfl _).trans (hne c main_v2 (by decide)).symm
        · exact ((pdats V adm 0 c).arrAt_in 6 rfl _).trans (hne c main_arg8 (by decide)).symm
        · exact ((pdats V adm 0 c).arrAt_in 7 rfl _).trans (hne c main_v3 (by decide)).symm
        · exact ((pdats V adm 0 c).arrAt_in 8 rfl _).trans (hne c main_arg10 (by decide)).symm
        · exact ((pdats V adm 0 c).arrAt_in 9 rfl _).trans (hne c main_v4 (by decide)).symm
        · exact ((pdats V adm 0 c).arrAt_in 10 rfl _).trans (hne c main_arg12 (by decide)).symm
        · exact ((pdats V adm 0 c).arrAt_in 11 rfl _).trans (hne c main_v5 (by decide)).symm
        · exact ((pdats V adm 0 c).arrAt_in 12 rfl _).trans (hne c main_arg14 (by decide)).symm
        · exact ((pdats V adm 0 c).arrAt_in 13 rfl _).trans (hne c main_v6 (by decide)).symm
        · exact (final14 V c).trans (hout c).symm)
      (fun b hb => hne c b fun h => hb (h ▸ Finset.mem_image.mpr ⟨14, Finset.mem_univ _, rfl⟩))
    iintro ⟨Ha, HO, -, Hz⟩
    imodintro
    isplitl [Ha Hz]
    · iapply give; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Twin

end
-- ==== Proof.Run.lean ====
/-
  The kernel program's run. On each device the core calls the tiles once, which fills the two picked arrays; it then
  reshapes the six bias vectors into one-row matrices, and launches the dense layers. At the end the result holds the
  dense layers' value at every block of rows, the arguments are as at the start, and every semaphore reads zero.
-/
module

public import proofs.«01_k».proof.Proof.Tile
public import proofs.«01_k».proof.Proof.Region

@[expose] public section

noncomputable section

namespace Cert.Proof.Twin

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.ShloMosaic.Pipeline (ucRefs sub_ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The ghost state at the launch -/

/-- The dense launch reads no table. -/
abbrev adm : (p : Fin 1) → (pcfgs (F := F) p).Adm := fun p => (cfgs p).toPCfg_adm

/-- The pipelines' configurations. -/
abbrev pins := Pipeline.pin (pcfgs (F := F)) adm

theorem pinInj : Function.Injective (Pipeline.cellOf (nD := nD) (τ := τ) (pins (F := F))) := cellOf_inj

/-- The launch's ghost state: the handshakes' cells and the staging's, no transfer counted. -/
def u₀ : UU := (initOf (K (F := F)).hsCells (K (F := F)).hsToks, (initOf (Pipeline.cells (pins (F := F)) pinInj) (Pipeline.launchToks (pins (F := F)) pinInj), 1))

/-- What device `d`'s core holds for its dense launch. -/
abbrev G (d : Dev nD) : sProp 𝕄 := iprop(Pipeline.cellsGhost (pins (F := F)) EP (0 : Fin 1) d ∗ Pipeline.toksInit (pins (F := F)) EP (0 : Fin 1) d)

theorem bigSep_emp' {I : Type} (s : Finset I) : (bigSep s fun _ => iprop(emp)) = (iprop(emp) : sProp 𝕄) := bigSep_emp_const s

variable (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair (initOf (K (F := F)).hsCells (K (F := F)).hsToks) (_ : UP × Counters)) $$ Hu
  icases H with ⟨HH, HR⟩
  ihave H := (own_pair_emb embR (initOf (Pipeline.cells (pins (F := F)) pinInj) (Pipeline.launchToks (pins (F := F)) pinInj)) (1 : Counters)) $$ HR
  icases H with ⟨HP, -⟩
  ihave HQ := (show BI.own (((Emb.inl : Emb UP (UP × Counters)).trans (embR : Emb (UP × Counters) 𝕄)) (initOf (Pipeline.cells (pins (F := F)) pinInj) (Pipeline.launchToks (pins (F := F)) pinInj)))
      ⊢ BI.own ((EP : Emb UP 𝕄) (initOf (Pipeline.cells (pins (F := F)) pinInj) (Pipeline.launchToks (pins (F := F)) pinInj))) from BI.Entails.refl _) $$ HP
  imod (Pipeline.fund_ghost (pins (F := F)) EP pinInj) $$ HQ with ⟨Hg, Ht⟩
  imodintro
  isplitl [HH]; · iexact HH
  isplitl [Hg Ht]
  · rw [show (bigSep Finset.univ (G (F := F)) : sProp 𝕄) = iprop((bigSep Finset.univ fun d : Dev nD => bigSep Finset.univ fun p : Fin 1 => Pipeline.cellsGhost (pins (F := F)) EP p d)
        ∗ bigSep Finset.univ fun d : Dev nD => bigSep Finset.univ fun p : Fin 1 => Pipeline.toksInit (pins (F := F)) EP p d) from
      (bigSep_sep' _ _ _).trans (congrArg₂ (fun a b => iprop(a ∗ b)) (bigSep_congr fun d _ => (bigSep_univ_of_subsingleton (Φ := fun p : Fin 1 => Pipeline.cellsGhost (pins (F := F)) EP p d) (0 : Fin 1)).symm)
        (bigSep_congr fun d _ => (bigSep_univ_of_subsingleton (Φ := fun p : Fin 1 => Pipeline.toksInit (pins (F := F)) EP p d) (0 : Fin 1)).symm))]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the buffers hold, step by step -/

abbrev dr (b : Ref sig .tc) : DevRef τ sig := Proc.devRef .tc b

/-- At the start. -/
abbrev V0 (d : Dev nD) : Valuation τ sig (Elt F) := fun b => m (d, b)
/-- After the tiles' call: the two picked arrays. -/
abbrev V1 (d : Dev nD) : Valuation τ sig (Elt F) :=
  Function.update (Function.update (V0 m d) (dr main_v0_0) (cOut m d)) (dr main_v0_1) (uOut m d)

abbrev rs1 : HloOp τ sig (Elt F) := StableHlo.reshape main_arg5 main_v1 (rfl : (.f32 : EltTy) = .f32) shapeCasts_S64_S1x64
abbrev rs2 : HloOp τ sig (Elt F) := StableHlo.reshape main_arg7 main_v2 (rfl : (.f32 : EltTy) = .f32) shapeCasts_S32_S1x32
abbrev rs3 : HloOp τ sig (Elt F) := StableHlo.reshape main_arg9 main_v3 (rfl : (.f32 : EltTy) = .f32) shapeCasts_S16_S1x16
abbrev rs4 : HloOp τ sig (Elt F) := StableHlo.reshape main_arg11 main_v4 (rfl : (.f32 : EltTy) = .f32) shapeCasts_S8_S1x8
abbrev rs5 : HloOp τ sig (Elt F) := StableHlo.reshape main_arg13 main_v5 (rfl : (.f32 : EltTy) = .f32) shapeCasts_S4_S1x4
abbrev rs6 : HloOp τ sig (Elt F) := StableHlo.reshape main_arg15 main_v6 (rfl : (.f32 : EltTy) = .f32) shapeCasts_S1_S1x1

/-- After the six reshapes. -/
def V2 (d : Dev nD) : Valuation τ sig (Elt F) :=
  rs6.result (rs5.result (rs4.result (rs3.result (rs2.result (rs1.result (V1 m d))))))

variable [FloatOps F]

/-- What the dense launch starts from. -/
abbrev VR (d : Dev nD) (b : Ref sig .tc) : Buf (Elt F) ((d.tc : Thread nD τ).loc b) := V2 m d (dr b)

/-- At the end: the result array filled. -/
def V3 (d : Dev nD) : Valuation τ sig (Elt F) := Function.update (V2 m d) (dr main_v7) (outAll (VR m) d)

theorem V3_out (d : Dev nD) : V3 m d (dr main_v7) = outAll (VR m) d := by unfold V3; exact Function.update_self ..

theorem V3_ne (d : Dev nD) (b : Ref sig .tc) (h : b ≠ main_v7) : V3 m d (dr b) = V2 m d (dr b) := by
  unfold V3; exact Function.update_of_ne (StableHlo.devRef_ne_of_ne h) ..

omit [FloatOps F] in
/-- A buffer no reshape writes is after them as before. -/
theorem V2_ne (d : Dev nD) (b : Ref sig .tc) (h1 : b ≠ main_v1) (h2 : b ≠ main_v2) (h3 : b ≠ main_v3) (h4 : b ≠ main_v4) (h5 : b ≠ main_v5) (h6 : b ≠ main_v6) :
    V2 m d (dr b) = V1 m d (dr b) := by
  unfold V2
  exact (StableHlo.reshape_result_ne _ _ _ _ _ _ _ h6).trans <| (StableHlo.reshape_result_ne _ _ _ _ _ _ _ h5).trans <| (StableHlo.reshape_result_ne _ _ _ _ _ _ _ h4).trans <|
    (StableHlo.reshape_result_ne _ _ _ _ _ _ _ h3).trans <| (StableHlo.reshape_result_ne _ _ _ _ _ _ _ h2).trans <| StableHlo.reshape_result_ne _ _ _ _ _ _ _ h1

omit [FloatOps F] in
/-- A buffer the tiles' call does not fill is after it as at the start. -/
theorem V1_ne (d : Dev nD) (b : Ref sig .tc) (h0 : b ≠ main_v0_0) (h1 : b ≠ main_v0_1) : V1 m d (dr b) = m (d, dr b) :=
  (Function.update_of_ne (StableHlo.devRef_ne_of_ne h1) ..).trans (Function.update_of_ne (StableHlo.devRef_ne_of_ne h0) ..)

/-! ## The tiles' operands among the buffers -/

/-- The six arrays of the tiles' call. -/
abbrev six : Finset (DevRef τ sig) := {dr main_arg0, dr main_arg1, dr main_arg2, dr main_arg3, dr main_v0_0, dr main_v0_1}

theorem six_sub : six ⊆ ucRefs τ sig := by decide

omit [FloatOps F] in
theorem held_six (d : Dev nD) (W : Valuation τ sig (Elt F)) :
    (held (T d) six W : sProp 𝕄) = iprop((cLoc d ↦{fullShare} W (dr main_arg0)) ∗ (uLoc d ↦{fullShare} W (dr main_arg1)) ∗ (ctLoc d ↦{fullShare} W (dr main_arg2))
      ∗ (utLoc d ↦{fullShare} W (dr main_arg3)) ∗ (coLoc d ↦{fullShare} W (dr main_v0_0)) ∗ (uoLoc d ↦{fullShare} W (dr main_v0_1))) := by
  unfold held
  rw [SparseCore.bigSep_insert' (by decide), SparseCore.bigSep_insert' (by decide), SparseCore.bigSep_insert' (by decide), SparseCore.bigSep_insert' (by decide),
    SparseCore.bigSep_insert' (by decide), bigSep_singleton]

omit [FloatOps F] in
/-- The call's operands: the six arrays as at the start. -/
theorem st_eq (d : Dev nD) : (held (T d) six (V0 m d) : sProp 𝕄) = bigSep Finset.univ fun c : Fin ((K (F := F)).nCore 0) => (P m).st 0 d c :=
  (held_six d (V0 m d)).trans ((whole_eq m d (m (coLoc d)) (m (uoLoc d))).trans (cores_eq _))

omit [FloatOps F] in
/-- The call's results: the six arrays, the last two picked. -/
theorem dn_eq (d : Dev nD) : (held (T d) six (V1 m d) : sProp 𝕄) = bigSep Finset.univ fun c : Fin ((K (F := F)).nCore 0) => (P m).dn 0 d c := by
  refine (held_six d (V1 m d)).trans (Eq.trans ?_ ((whole_eq m d (cOut m d) (uOut m d)).trans (cores_eq _)))
  rw [show V1 m d (dr main_arg0) = m (cLoc d) from V1_ne m d main_arg0 (by decide) (by decide),
    show V1 m d (dr main_arg1) = m (uLoc d) from V1_ne m d main_arg1 (by decide) (by decide),
    show V1 m d (dr main_arg2) = m (ctLoc d) from V1_ne m d main_arg2 (by decide) (by decide),
    show V1 m d (dr main_arg3) = m (utLoc d) from V1_ne m d main_arg3 (by decide) (by decide),
    show V1 m d (dr main_v0_0) = cOut m d from (Function.update_of_ne (StableHlo.devRef_ne_of_ne (by decide)) ..).trans (Function.update_self ..),
    show V1 m d (dr main_v0_1) = uOut m d from Function.update_self ..]

omit [FloatOps F] in
/-- The other buffers do not notice the call. -/
theorem rest_eq (d : Dev nD) : (held (T d) (ucRefs τ sig \ six) (V0 m d) : sProp 𝕄) = held (T d) (ucRefs τ sig \ six) (V1 m d) := by
  unfold held
  refine bigSep_congr fun b hb => ?_
  have hn := (Finset.mem_sdiff.mp hb).2
  have h0 : b ≠ dr main_v0_0 := fun h => hn (h ▸ by decide)
  have h1 : b ≠ dr main_v0_1 := fun h => hn (h ▸ by decide)
  exact congrArg _ ((Function.update_of_ne h1 ..).trans (Function.update_of_ne h0 ..)).symm

/-! ## @main on the core -/

omit [FloatOps F] in
/-- Before the call: every buffer as at the start is the call's operands and the rest. -/
theorem before_call (d : Dev nD) : (unscopedBufs d (fun b => m ((SparseCore.T d).loc b)) : sProp 𝕄)
    = iprop((bigSep Finset.univ fun c : Fin ((K (F := F)).nCore 0) => (P m).st 0 d c) ∗ held (T d) (ucRefs τ sig \ six) (V1 m d)) := by
  rw [← st_eq, ← rest_eq, ← StableHlo.held_sub_split (T d) six_sub (V0 m d)]
  exact unscopedBufs_held d (V0 m d)

omit [FloatOps F] in
/-- After the call: its results and the rest are every buffer, the two picked arrays filled. -/
theorem after_call (d : Dev nD) : (held (T d) (ucRefs τ sig) (V1 m d) : sProp 𝕄)
    = iprop((bigSep Finset.univ fun c : Fin ((K (F := F)).nCore 0) => (P m).dn 0 d c) ∗ held (T d) (ucRefs τ sig \ six) (V1 m d)) := by
  rw [← dn_eq, ← StableHlo.held_sub_split (T d) six_sub (V1 m d)]

omit [FloatOps F] in
/-- After the one call the core owes nothing. -/
theorem tcSt_one (d : Dev nD) : ∃ R : sProp 𝕄, ((K (F := F)).tcSt EH d 1 : sProp 𝕄) = iprop(idle (F := F) d ∗ R) := by
  unfold SparseCore.Cfg.tcSt
  rw [(K (F := F)).Otc_end d (le_refl 1)]
  exact ⟨_, rfl⟩

/-- What the core ends with. -/
abbrev FIN (d : Dev nD) : sProp 𝕄 := held (T d) (ucRefs τ sig) (V3 m d)

variable [∀ e, Nonempty (Elt F e)]

/-- @main on device `d`'s core: from the buffers at the start to them at `V3`. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [before_call]
  simp only [main, wp_bind, wp_pure]
  iintro ⟨#Hctx, Hst, ⟨Hb, ⟨Hops, Hrest⟩, Hts, -⟩, Hg, Ht⟩
  iapply ((K (F := F)).wp_run (D (F := F)) 𝒱 (EH := EH) (P := P m) κ d 0) $$ [-]
  isplitr; · iexact Hctx
  isplitl [Hst]; · iexact Hst
  isplitl [Hops]; · iexact Hops
  iintro ⟨Hst, Hdn⟩
  ihave Hheld := (Entails.of_eq (after_call m d).symm) $$ [Hdn Hrest]
  · isplitl [Hdn] <;> iassumption
  iapply (wp_hlo_within 𝒱 (SparseCore.T d) none Set.univ (op := rs1) (S := ucRefs τ sig) (sub_ucRefs _ (StableHlo.reshape_bufs_sub _ _ _ _ _ _)) (V := V1 m d)) $$ [Hb Hheld]
  · isplitl [Hb] <;> iassumption
  iintro ⟨Hb, Hheld⟩; rw [wp_ret]; imodintro
  iapply (wp_hlo_within 𝒱 (SparseCore.T d) none Set.univ (op := rs2) (S := ucRefs τ sig) (sub_ucRefs _ (StableHlo.reshape_bufs_sub _ _ _ _ _ _)) (V := rs1.result (V1 m d))) $$ [Hb Hheld]
  · isplitl [Hb] <;> iassumption
  iintro ⟨Hb, Hheld⟩; rw [wp_ret]; imodintro
  iapply (wp_hlo_within 𝒱 (SparseCore.T d) none Set.univ (op := rs3) (S := ucRefs τ sig) (sub_ucRefs _ (StableHlo.reshape_bufs_sub _ _ _ _ _ _)) (V := rs2.result (rs1.result (V1 m d)))) $$ [Hb Hheld]
  · isplitl [Hb] <;> iassumption
  iintro ⟨Hb, Hheld⟩; rw [wp_ret]; imodintro
  iapply (wp_hlo_within 𝒱 (SparseCore.T d) none Set.univ (op := rs4) (S := ucRefs τ sig) (sub_ucRefs _ (StableHlo.reshape_bufs_sub _ _ _ _ _ _)) (V := rs3.result (rs2.result (rs1.result (V1 m d))))) $$ [Hb Hheld]
  · isplitl [Hb] <;> iassumption
  iintro ⟨Hb, Hheld⟩; rw [wp_ret]; imodintro
  iapply (wp_hlo_within 𝒱 (SparseCore.T d) none Set.univ (op := rs5) (S := ucRefs τ sig) (sub_ucRefs _ (StableHlo.reshape_bufs_sub _ _ _ _ _ _)) (V := rs4.result (rs3.result (rs2.result (rs1.result (V1 m d)))))) $$ [Hb Hheld]
  · isplitl [Hb] <;> iassumption
  iintro ⟨Hb, Hheld⟩; rw [wp_ret]; imodintro
  iapply (wp_hlo_within 𝒱 (SparseCore.T d) none Set.univ (op := rs6) (S := ucRefs τ sig) (sub_ucRefs _ (StableHlo.reshape_bufs_sub _ _ _ _ _ _)) (V := rs5.result (rs4.result (rs3.result (rs2.result (rs1.result (V1 m d))))))) $$ [Hb Hheld]
  · isplitl [Hb] <;> iassumption
  iintro ⟨Hb, Hheld⟩; rw [wp_ret]; imodintro
  have hent := ((K (F := F)).wp_liftProg (D (F := F)) 𝒱 (SparseCore.T d) Set.univ none
    (.op (.customCall (Pipeline.entry (0 : Fin 1)) ()) .ret) (fun _ => iprop(|={Set.univ}=> ((K (F := F)).tcSt EH d 1 ∗ FIN m d ∗ boundary (SparseCore.T d) ∗ (K (F := F)).tcSems0 d))))
  iapply (show _ ⊢ wp frame (wpE ((K (F := F)).defs (D (F := F))) 𝒱 (SparseCore.T d) none) Set.univ
    (Prog.lift (.customCall (SparseCore.inner (Pipeline.entry (0 : Fin 1))) ())) _ from hent)
  iapply (Pipeline.RegionSeg.wp (pcfgs (F := F)) adm (pdats (VR m) adm) (none : HIx 1) pinInj EP defs₀ 𝒱₀ (K (F := F)).L (K (F := F)).lev
    (reg (VR m) adm (fun d b => V3 m d (dr b)) (V3_out m) (V3_ne m)) d none (fun u h => nomatch h) .ret _) $$ [-]
  ihave Hst := (show ((K (F := F)).tcSt EH d (((0 : Fin 1) : ℕ) + 1) : sProp 𝕄) ⊢ _ from Entails.of_eq hR) $$ Hst
  icases Hst with ⟨Hidle, HR⟩
  isplitl [HR Hts]
  · iintro ⟨Hb, Hpost⟩
    ihave Hpost := (show (reg (VR m) adm (fun d b => V3 m d (dr b)) (V3_out m) (V3_ne m)).post d
      ⊢ iprop(unscopedBufs d (fun b => V3 m d (dr b)) ∗ idle (F := F) d) from BI.Entails.refl _) $$ Hpost
    icases Hpost with ⟨Hu, Hidle⟩
    rw [wp_ret]; imodintro; imodintro
    isplitl [HR Hidle]
    · iapply (Entails.of_eq hR.symm); isplitl [Hidle] <;> iassumption
    isplitl [Hu]
    · iapply (Entails.of_eq (unscopedBufs_held d (V3 m d))); iexact Hu
    isplitl [Hb] <;> iassumption
  isplitl [Hb]; · iexact Hb
  isplitl [Hheld Hidle]
  · iapply (show iprop(unscopedBufs d (fun b => V2 m d (dr b)) ∗ idle (F := F) d)
      ⊢ (reg (VR m) adm (fun d b => V3 m d (dr b)) (V3_out m) (V3_ne m)).pre d from BI.Entails.refl _)
    isplitl [Hheld]
    · iapply (Entails.of_eq (unscopedBufs_held d (V2 m d)).symm); iexact Hheld
    iexact Hidle
  isplitr
  · iapply ((K (F := F)).ctx_levAts κ); iexact Hctx
  isplitl [Hg] <;> iassumption

/-! ## What the final buffers say of the final memory -/

/-- The final memory of device `d`: every buffer that outlives the launches at `V3`. -/
abbrev fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  show iprop((bigSep (ucRefs τ sig) fun b => (d, b) ↦{fullShare} V3 m d b) ∗ SI s') ⊢ _
  iintro ⟨Hh, HSI⟩
  iapply (SI_pointsTo_bufs_agree (st := s') (c := d) (qs := fun _ => fullShare) (F := V3 m d) (ucRefs τ sig)) $$ [Hh HSI]
  isplitl [HSI]; · iexact HSI
  iexact Hh

/-! ## The program's run -/

/-- Every final state has every buffer that outlives the launches at `V3`, and every semaphore at zero. -/
theorem run_all (hpre : InRange m) :
    θ_run (defs (F := F)) (threads (F := F)) ⟨m, fun _ => 0, ρ⟩
      (fun r => (∀ d : Dev nD, ∀ b ∈ ucRefs τ sig, r.2.mem (d, b) = V3 m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) _ (fun _ h hz => ⟨h, hz⟩)

end Cert.Proof.Twin

end
-- ==== Proof.Ref.lean ====
/-
  The reference's value, in two parts: the rows it takes from a table, and the layers it applies to them. Where every
  row number lies below the table's length, taking is plain reading: no number is wrapped and no row is filled in.
-/
module

public import proofs.«01_k».proof.Proof.Gen.ReferenceIdeal.Run
public import Idealize.ShloMosaic.Lib.Pointwise
public import Idealize.ShloMosaic.Lib.Pointwise.IndexBridge
public import Idealize.ShloMosaic.Lib.ReduceAll
public import Idealize.ShloMosaic.Lib.WordCmp
public import Idealize.ShloMosaic.Lib.Tactic.CleanTypes
public import Idealize.ShloMosaic.Lib.Tactic.WordOmega
public import Idealize.ShloMosaic.Lib.Routing.Ops

@[expose] public section

noncomputable section

namespace Cert.Proof.Plain

open Cert.ReferenceIdeal Cert.ReferenceIdeal.Gen Idealize.ShloMosaic Idealize.ShloMosaic.TcCoe Idealize.SL.Sem

/-- The row numbers as a column, the negative ones counted from the table's end. -/
def column (ix : IVec S16384 32) : IVec S16384x1 32 :=
  broadcastInDim S16384x1 ![0] bcast_S16384_S16384x1_0 (select (cmpi .slt ix (broadcastInDim S16384 ![] bcast_S_S16384 (constantI S_ 32 0#32)))
    (addi ix (broadcastInDim S16384 ![] bcast_S_S16384 (constantI S_ 32 1000000#32))) ix)

/-- Which rows are taken; the others are filled in. -/
def taken (ix : IVec S16384 32) : IVec S16384 1 :=
  Host.reduce IntOp.andi (andi (cmpi .sge (column ix) (broadcastInDim S16384x1 ![] bcast_S_S16384x1 (constantI S_ 32 0#32)))
    (cmpi .sle (column ix) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The rows of `tab` that `ix` names. -/
def rows (tab : FVec Ideal S1000000x16 .f32) (ix : IVec S16384 32) : FVec Ideal S16384x16 .f32 :=
  select (broadcastInDim S16384x16 ![0] bcast_S16384_S16384x16_0 (taken ix)) (Host.gather gather_S1000000x16_S16384x1_S16384x16_1_0_n_n_0_1_116 tab (column ix))
    (broadcastInDim S16384x16 ![] bcast_S_S16384x16 (constant (F := Ideal) S_ .f32 0x7FC00000#32))

/-- The layers applied to the two sets of rows, side by side. -/
def layers (xc xu : FVec Ideal S16384x16 .f32) (w0 : FVec Ideal S32x64 .f32) (b0 : FVec Ideal S64 .f32) (w1 : FVec Ideal S64x32 .f32) (b1 : FVec Ideal S32 .f32)
    (w2 : FVec Ideal S32x16 .f32) (b2 : FVec Ideal S16 .f32) (w3 : FVec Ideal S16x8 .f32) (b3 : FVec Ideal S8 .f32) (w4 : FVec Ideal S8x4 .f32) (b4 : FVec Ideal S4 .f32)
    (w5 : FVec Ideal S4x1 .f32) (b5 : FVec Ideal S1 .f32) : FVec Ideal S16384x1 .f32 :=
  maximumf (maximumf (addf (Host.dotGeneral dot_S16384x4_S4x1_S16384x1_1_0_0_1_n_n none (maximumf (addf (Host.dotGeneral dot_S16384x8_S8x4_S16384x4_1_0_0_1_n_n none
    (maximumf (addf (Host.dotGeneral dot_S16384x16_S16x8_S16384x8_1_0_0_1_n_n none (maximumf (addf (Host.dotGeneral dot_S16384x32_S32x16_S16384x16_1_0_0_1_n_n none
    (maximumf (addf (Host.dotGeneral dot_S16384x64_S64x32_S16384x32_1_0_0_1_n_n none (addf (Host.dotGeneral dot_S16384x32_S32x64_S16384x64_1_0_0_1_n_n none
      (concatenate S16384x32 1 [⟨S16384x16, xc⟩, ⟨S16384x16, xu⟩] concatenates_S16384x16_S16384x16_S16384x32_d1) w0)
      (broadcastInDim S16384x64 ![0, 1] bcast_S1x64_S16384x64_0_1 (broadcastInDim S1x64 ![1] bcast_S64_S1x64_1 b0))) w1)
      (broadcastInDim S16384x32 ![0, 1] bcast_S1x32_S16384x32_0_1 (broadcastInDim S1x32 ![1] bcast_S32_S1x32_1 b1)))
      (broadcastInDim S16384x32 ![] bcast_S_S16384x32 (constant (F := Ideal) S_ .f32 0x00000000#32))) w2)
      (broadcastInDim S16384x16 ![0, 1] bcast_S1x16_S16384x16_0_1 (broadcastInDim S1x16 ![1] bcast_S16_S1x16_1 b2)))
      (broadcastInDim S16384x16 ![] bcast_S_S16384x16 (constant (F := Ideal) S_ .f32 0x00000000#32))) w3)
      (broadcastInDim S16384x8 ![0, 1] bcast_S1x8_S16384x8_0_1 (broadcastInDim S1x8 ![1] bcast_S8_S1x8_1 b3)))
      (broadcastInDim S16384x8 ![] bcast_S_S16384x8 (constant (F := Ideal) S_ .f32 0x00000000#32))) w4)
      (broadcastInDim S16384x4 ![0, 1] bcast_S1x4_S16384x4_0_1 (broadcastInDim S1x4 ![1] bcast_S4_S1x4_1 b4)))
      (broadcastInDim S16384x4 ![] bcast_S_S16384x4 (constant (F := Ideal) S_ .f32 0x00000000#32))) w5)
      (broadcastInDim S16384x1 ![0, 1] bcast_S1x1_S16384x1_0_1 (broadcastInDim S1x1 ![1] bcast_S1_S1x1_1 b5)))
      (broadcastInDim S16384x1 ![] bcast_S_S16384x1 (constant (F := Ideal) S_ .f32 0x00000000#32)))
      (broadcastInDim S16384x1 ![] bcast_S_S16384x1 (constant (F := Ideal) S_ .f32 0x00000000#32))

/-- The reference's result is the layers of the rows it takes. -/
theorem out_eq (m : (ℓ : Loc nD τ sig) → Buf (Elt Ideal) ℓ) (c : Dev nD) :
    Value.res_main_v32 m c = layers (rows (m ((c.tc : Thread nD τ).loc main_arg2)) (m ((c.tc : Thread nD τ).loc main_arg0)))
      (rows (m ((c.tc : Thread nD τ).loc main_arg3)) (m ((c.tc : Thread nD τ).loc main_arg1)))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15)) := rfl

/-- A number below the table's length stands in the column as it is. -/
theorem column_apply (ix : IVec S16384 32) (h : ∀ j, (ix j).toNat < 1000000) (k : Fin 16384) (z : Fin 1) : column ix (ix2 k z) = ix (ix1 k) := by
  have hk := h (ix1 k)
  unfold column
  pointwise
  generalize ix (ix1 k) = w at hk ⊢
  word_omega

/-- Every row is taken. -/
theorem taken_apply (ix : IVec S16384 32) (h : ∀ j, (ix j).toNat < 1000000) (j : S16384.Idx) : taken ix j = 1#1 := by
  unfold taken
  refine Host.reduce_andi_one _ _ _ _ _ rfl fun i => ?_
  obtain ⟨k, z, rfl⟩ : ∃ (k : Fin 16384) (z : Fin 1), i = ix2 k z := ⟨i 0, i 1, eq_ix2 i⟩
  have hk := h (ix1 k)
  have e := column_apply ix h k z
  pointwise [e]
  generalize ix (ix1 k) = w at hk ⊢
  word_omega

/-- The row taken is the row named. -/
theorem rows_apply (tab : FVec Ideal S1000000x16 .f32) (ix : IVec S16384 32) (h : ∀ j, (ix j).toNat < 1000000) (k : Fin 16384) (z : Fin 16) :
    rows tab ix (ix2 k z) = tab (ix2 ⟨(ix (ix1 k)).toNat, h _⟩ z) := by
  unfold rows
  have e := Routing.gather_row gather_S1000000x16_S16384x1_S16384x16_1_0_n_n_0_1_116 rfl rfl rfl rfl rfl tab (column ix) k z ⟨(ix (ix1 k)).toNat, h _⟩
    ((column_apply ix h k 0).trans (by simp)) (by decide)
  pointwise [taken_apply ix h]
  exact e

end Cert.Proof.Plain

end
-- ==== Proof.Value.lean ====
/-
  The two programs' values agree on extended reals. Row by row the dense kernel and the reference compute the same
  layers; the first layer's sum over thirty-two entries is the kernel's two sums over sixteen.
-/
module

public import proofs.«01_k».proof.Proof.Run
public import proofs.«01_k».proof.Proof.Ref

@[expose] public section

noncomputable section

namespace Cert.Proof.Twin

open Cert.KernelIdeal Cert.KernelIdeal.Gen
open Idealize.ShloMosaic Idealize.ShloMosaic.TcCoe

/-! ## A row through the layers -/

set_option maxRecDepth 16384 in
/-- Row `r` of the kernel's block is row `k` of the reference's result when they start from the same two rows. -/
theorem block_row (k : Fin 16384) (r : Fin 4096) (xc xu : FVec Ideal S16384x16 .f32) (yc yu : FVec Ideal S4096x16 .f32)
    (hc : ∀ j, yc (ix2 r j) = xc (ix2 k j)) (hu : ∀ j, yu (ix2 r j) = xu (ix2 k j))
    (w0 : FVec Ideal S32x64 .f32) (b0 : FVec Ideal S64 .f32) (w1 : FVec Ideal S64x32 .f32) (b1 : FVec Ideal S32 .f32)
    (w2 : FVec Ideal S32x16 .f32) (b2 : FVec Ideal S16 .f32) (w3 : FVec Ideal S16x8 .f32) (b3 : FVec Ideal S8 .f32) (w4 : FVec Ideal S8x4 .f32) (b4 : FVec Ideal S4 .f32)
    (w5 : FVec Ideal S4x1 .f32) (b5 : FVec Ideal S1 .f32) (z : Fin 1) :
    denseBlock (F := Ideal) yc yu w0 (shapeCast S1x64 b0 shapeCasts_S64_S1x64) w1 (shapeCast S1x32 b1 shapeCasts_S32_S1x32) w2 (shapeCast S1x16 b2 shapeCasts_S16_S1x16)
        w3 (shapeCast S1x8 b3 shapeCasts_S8_S1x8) w4 (shapeCast S1x4 b4 shapeCasts_S4_S1x4) w5 (shapeCast S1x1 b5 shapeCasts_S1_S1x1) (ix2 r z)
      = Plain.layers xc xu w0 b0 w1 b1 w2 b2 w3 b3 w4 b4 w5 b5 (ix2 k z) := by
  unfold denseBlock Plain.layers
  pointwise [k1_pay1, k1_pay2, wTop, wBot, hc, hu]
  rw [max_assoc, max_self]

/-! ## What the dense launch reads -/

section Blocks

variable {F : FTy → Type} [FloatOps F] (V : (c : Dev nD) → (b : Ref sig .tc) → Buf (Elt F) ((c : Thread nD τ).loc b))

/-- Point `t`'s block of a picked array is its rows from `4096 t` on. -/
theorem row0 (c : Dev nD) (t : Fin cfg1.N) (r : Fin 4096) (j : Fin 16) (k : Fin 16384) (hk : t.val * 4096 + r.val = k.val) :
    blkOf V c 0 t (ix2 r j) = V c main_v0_0 (ix2 k j) := by
  have e : win1_0.index t 0 = t.val ∧ win1_0.index t 1 = 0 := by rcases fin_N1 t with rfl | rfl | rfl | rfl <;> decide +kernel
  show V c main_v0_0 ((win1_0.rect t).emb (ix2 r j)) = V c main_v0_0 (ix2 k j)
  refine congrArg (V c main_v0_0) (funext fun a => Fin.ext ?_)
  match a with
  | 0 => exact ((win1_0.rect_emb_val t (ix2 r j) 0).trans (by rw [e.1]; rfl)).trans hk
  | 1 => exact win1_0.rect_emb_val_of_index_zero t 1 e.2 (ix2 r j)
theorem row1 (c : Dev nD) (t : Fin cfg1.N) (r : Fin 4096) (j : Fin 16) (k : Fin 16384) (hk : t.val * 4096 + r.val = k.val) :
    blkOf V c 1 t (ix2 r j) = V c main_v0_1 (ix2 k j) := by
  have e : win1_1.index t 0 = t.val ∧ win1_1.index t 1 = 0 := by rcases fin_N1 t with rfl | rfl | rfl | rfl <;> decide +kernel
  show V c main_v0_1 ((win1_1.rect t).emb (ix2 r j)) = V c main_v0_1 (ix2 k j)
  refine congrArg (V c main_v0_1) (funext fun a => Fin.ext ?_)
  match a with
  | 0 => exact ((win1_1.rect_emb_val t (ix2 r j) 0).trans (by rw [e.1]; rfl)).trans hk
  | 1 => exact win1_1.rect_emb_val_of_index_zero t 1 e.2 (ix2 r j)

/-- A weight or a bias is read whole. -/
theorem whole2 (c : Dev nD) (t : Fin cfg1.N) : blkOf V c 2 t = V c main_arg4 := by
  have e : ∀ a, win1_2.index t a = 0 := by rcases fin_N1 t with rfl | rfl | rfl | rfl <;> decide +kernel
  funext y
  show V c main_arg4 ((win1_2.rect t).emb y) = V c main_arg4 y
  exact congrArg (V c main_arg4) (funext fun a => Fin.ext (win1_2.rect_emb_val_of_index_zero t a (e a) y))
theorem whole3 (c : Dev nD) (t : Fin cfg1.N) : blkOf V c 3 t = V c main_v1 := by
  have e : ∀ a, win1_3.index t a = 0 := by rcases fin_N1 t with rfl | rfl | rfl | rfl <;> decide +kernel
  funext y
  show V c main_v1 ((win1_3.rect t).emb y) = V c main_v1 y
  exact congrArg (V c main_v1) (funext fun a => Fin.ext (win1_3.rect_emb_val_of_index_zero t a (e a) y))
theorem whole4 (c : Dev nD) (t : Fin cfg1.N) : blkOf V c 4 t = V c main_arg6 := by
  have e : ∀ a, win1_4.index t a = 0 := by rcases fin_N1 t with rfl | rfl | rfl | rfl <;> decide +kernel
  funext y
  show V c main_arg6 ((win1_4.rect t).emb y) = V c main_arg6 y
  exact congrArg (V c main_arg6) (funext fun a => Fin.ext (win1_4.rect_emb_val_of_index_zero t a (e a) y))
theorem whole5 (c : Dev nD) (t : Fin cfg1.N) : blkOf V c 5 t = V c main_v2 := by
  have e : ∀ a, win1_5.index t a = 0 := by rcases fin_N1 t with rfl | rfl | rfl | rfl <;> decide +kernel
  funext y
  show V c main_v2 ((win1_5.rect t).emb y) = V c main_v2 y
  exact congrArg (V c main_v2) (funext fun a => Fin.ext (win1_5.rect_emb_val_of_index_zero t a (e a) y))
theorem whole6 (c : Dev nD) (t : Fin cfg1.N) : blkOf V c 6 t = V c main_arg8 := by
  have e : ∀ a, win1_6.index t a = 0 := by rcases fin_N1 t with rfl | rfl | rfl | rfl <;> decide +kernel
  funext y
  show V c main_arg8 ((win1_6.rect t).emb y) = V c main_arg8 y
  exact congrArg (V c main_arg8) (funext fun a => Fin.ext (win1_6.rect_emb_val_of_index_zero t a (e a) y))
theorem whole7 (c : Dev nD) (t : Fin cfg1.N) : blkOf V c 7 t = V c main_v3 := by
  have e : ∀ a, win1_7.index t a = 0 := by rcases fin_N1 t with rfl | rfl | rfl | rfl <;> decide +kernel
  funext y
  show V c main_v3 ((win1_7.rect t).emb y) = V c main_v3 y
  exact congrArg (V c main_v3) (funext fun a => Fin.ext (win1_7.rect_emb_val_of_index_zero t a (e a) y))
theorem whole8 (c : Dev nD) (t : Fin cfg1.N) : blkOf V c 8 t = V c main_arg10 := by
  have e : ∀ a, win1_8.index t a = 0 := by rcases fin_N1 t with rfl | rfl | rfl | rfl <;> decide +kernel
  funext y
  show V c main_arg10 ((win1_8.rect t).emb y) = V c main_arg10 y
  exact congrArg (V c main_arg10) (funext fun a => Fin.ext (win1_8.rect_emb_val_of_index_zero t a (e a) y))
theorem whole9 (c : Dev nD) (t : Fin cfg1.N) : blkOf V c 9 t = V c main_v4 := by
  have e : ∀ a, win1_9.index t a = 0 := by rcases fin_N1 t with rfl | rfl | rfl | rfl <;> decide +kernel
  funext y
  show V c main_v4 ((win1_9.rect t).emb y) = V c main_v4 y
  exact congrArg (V c main_v4) (funext fun a => Fin.ext (win1_9.rect_emb_val_of_index_zero t a (e a) y))
theorem whole10 (c : Dev nD) (t : Fin cfg1.N) : blkOf V c 10 t = V c main_arg12 := by
  have e : ∀ a, win1_10.index t a = 0 := by rcases fin_N1 t with rfl | rfl | rfl | rfl <;> decide +kernel
  funext y
  show V c main_arg12 ((win1_10.rect t).emb y) = V c main_arg12 y
  exact congrArg (V c main_arg12) (funext fun a => Fin.ext (win1_10.rect_emb_val_of_index_zero t a (e a) y))
theorem whole11 (c : Dev nD) (t : Fin cfg1.N) : blkOf V c 11 t = V c main_v5 := by
  have e : ∀ a, win1_11.index t a = 0 := by rcases fin_N1 t with rfl | rfl | rfl | rfl <;> decide +kernel
  funext y
  show V c main_v5 ((win1_11.rect t).emb y) = V c main_v5 y
  exact congrArg (V c main_v5) (funext fun a => Fin.ext (win1_11.rect_emb_val_of_index_zero t a (e a) y))
theorem whole12 (c : Dev nD) (t : Fin cfg1.N) : blkOf V c 12 t = V c main_arg14 := by
  have e : ∀ a, win1_12.index t a = 0 := by rcases fin_N1 t with rfl | rfl | rfl | rfl <;> decide +kernel
  funext y
  show V c main_arg14 ((win1_12.rect t).emb y) = V c main_arg14 y
  exact congrArg (V c main_arg14) (funext fun a => Fin.ext (win1_12.rect_emb_val_of_index_zero t a (e a) y))
theorem whole13 (c : Dev nD) (t : Fin cfg1.N) : blkOf V c 13 t = V c main_v6 := by
  have e : ∀ a, win1_13.index t a = 0 := by rcases fin_N1 t with rfl | rfl | rfl | rfl <;> decide +kernel
  funext y
  show V c main_v6 ((win1_13.rect t).emb y) = V c main_v6 y
  exact congrArg (V c main_v6) (funext fun a => Fin.ext (win1_13.rect_emb_val_of_index_zero t a (e a) y))

end Blocks

section Reshapes

variable {F : FTy → Type} (m : (ℓ : Loc nD τ sig) → Buf (Elt F) ℓ)

/-- A bias is given to the launch as a row. -/
theorem bias1 (d : Dev nD) : V2 m d (dr main_v1) = shapeCast S1x64 (m (d, dr main_arg5)) shapeCasts_S64_S1x64 := by
  unfold V2
  refine (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result _ _ _ _ _ _ _).trans (congrArg (fun x : FVec F S64 .f32 => shapeCast S1x64 x shapeCasts_S64_S1x64) ?_)
  exact V1_ne m d main_arg5 (by decide) (by decide)
theorem bias2 (d : Dev nD) : V2 m d (dr main_v2) = shapeCast S1x32 (m (d, dr main_arg7)) shapeCasts_S32_S1x32 := by
  unfold V2
  refine (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result _ _ _ _ _ _ _).trans (congrArg (fun x : FVec F S32 .f32 => shapeCast S1x32 x shapeCasts_S32_S1x32) ?_)
  exact (StableHlo.reshape_result_ne _ _ _ _ _ _ _ (by decide)).trans <| V1_ne m d main_arg7 (by decide) (by decide)
theorem bias3 (d : Dev nD) : V2 m d (dr main_v3) = shapeCast S1x16 (m (d, dr main_arg9)) shapeCasts_S16_S1x16 := by
  unfold V2
  refine (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result _ _ _ _ _ _ _).trans (congrArg (fun x : FVec F S16 .f32 => shapeCast S1x16 x shapeCasts_S16_S1x16) ?_)
  exact (StableHlo.reshape_result_ne _ _ _ _ _ _ _ (by decide)).trans <|
    (StableHlo.reshape_result_ne _ _ _ _ _ _ _ (by decide)).trans <| V1_ne m d main_arg9 (by decide) (by decide)
theorem bias4 (d : Dev nD) : V2 m d (dr main_v4) = shapeCast S1x8 (m (d, dr main_arg11)) shapeCasts_S8_S1x8 := by
  unfold V2
  refine (StableHlo.reshape_result_ne _ _ _ _ _ _ _ (by decide)).trans <|
    (StableHlo.reshape_result_ne _ _ _ _ _ _ _ (by decide)).trans <|
    (StableHlo.reshape_result _ _ _ _ _ _ _).trans (congrArg (fun x : FVec F S8 .f32 => shapeCast S1x8 x shapeCasts_S8_S1x8) ?_)
  exact (StableHlo.reshape_result_ne _ _ _ _ _ _ _ (by decide)).trans <|
    (StableHlo.reshape_result_ne _ _ _ _ _ _ _ (by decide)).trans <|
    (StableHlo.reshape_result_ne _ _ _ _ _ _ _ (by decide)).trans <| V1_ne m d main_arg11 (by decide) (by decide)
theorem bias5 (d : Dev nD) : V2 m d (dr main_v5) = shapeCast S1x4 (m (d, dr main_arg13)) shapeCasts_S4_S1x4 := by
  unfold V2
  refine (StableHlo.reshape_result_ne _ _ _ _ _ _ _ (by decide)).trans <|
    (StableHlo.reshape_result _ _ _ _ _ _ _).trans (congrArg (fun x : FVec F S4 .f32 => shapeCast S1x4 x shapeCasts_S4_S1x4) ?_)
  exact (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result_ne _ _ _ _ _ _ _ (by decide)).trans <| V1_ne m d main_arg13 (by decide) (by decide)
theorem bias6 (d : Dev nD) : V2 m d (dr main_v6) = shapeCast S1x1 (m (d, dr main_arg15)) shapeCasts_S1_S1x1 := by
  unfold V2
  refine (StableHlo.reshape_result _ _ _ _ _ _ _).trans (congrArg (fun x : FVec F S1 .f32 => shapeCast S1x1 x shapeCasts_S1_S1x1) ?_)
  exact (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result_ne _ _ _ _ _ _ _ (by decide)).trans <|
    (StableHlo.reshape_result_ne _ _ _ _ _ _ _ (by decide)).trans <| V1_ne m d main_arg15 (by decide) (by decide)

/-- Where the row numbers are in range, picking is reading the rows they name. -/
theorem pick_apply {α : Type} (tab : S1000000x16.Idx → α) (ix : S16384.Idx → BitVec 32) (h : ∀ j, (ix j).toNat < 1000000) (k : Fin 16384) (z : Fin 16) :
    pick tab ix (ix2 k z) = tab (ix2 ⟨(ix (ix1 k)).toNat, h _⟩ z) := by
  have e : at1 k = ix1 k := funext fun a => match a with | 0 => rfl
  show tab (at2 ⟨(ix (at1 k)).toNat % 1000000, _⟩ z) = _
  refine congrArg tab (funext fun a => ?_)
  match a with
  | 0 => exact Fin.ext (show (ix (at1 k)).toNat % 1000000 = (ix (ix1 k)).toNat by rw [e, Nat.mod_eq_of_lt (h _)])
  | 1 => rfl

end Reshapes

/-! ## The result -/

variable (m : (ℓ : Loc nD τ sig) → Buf (Elt Ideal) ℓ)

/-- The kernel's picked arrays are the rows the reference takes. -/
theorem cOut_apply (hpre : InRange m) (d : Dev nD) (k : Fin 16384) (j : Fin 16) :
    VR m d main_v0_0 (ix2 k j) = Plain.rows (m (d, dr main_arg2)) (m (d, dr main_arg0)) (ix2 k j) := by
  rw [Plain.rows_apply _ _ (fun j => (hpre d j).1) k j]
  refine Eq.trans (congrFun (?_ : VR m d main_v0_0 = cOut m d) _) (pick_apply _ _ (fun j => (hpre d j).1) k j)
  exact (V2_ne m d main_v0_0 (by decide) (by decide) (by decide) (by decide) (by decide) (by decide)).trans
    ((Function.update_of_ne (StableHlo.devRef_ne_of_ne (by decide)) ..).trans (Function.update_self ..))

theorem uOut_apply (hpre : InRange m) (d : Dev nD) (k : Fin 16384) (j : Fin 16) :
    VR m d main_v0_1 (ix2 k j) = Plain.rows (m (d, dr main_arg3)) (m (d, dr main_arg1)) (ix2 k j) := by
  rw [Plain.rows_apply _ _ (fun j => (hpre d j).2) k j]
  refine Eq.trans (congrFun (?_ : VR m d main_v0_1 = uOut m d) _) (pick_apply _ _ (fun j => (hpre d j).2) k j)
  exact (V2_ne m d main_v0_1 (by decide) (by decide) (by decide) (by decide) (by decide) (by decide)).trans (Function.update_self ..)

/-- A weight is at the launch as at the start. -/
theorem kept (d : Dev nD) (b : Ref sig .tc) (h0 : b ≠ main_v0_0) (h00 : b ≠ main_v0_1) (h1 : b ≠ main_v1) (h2 : b ≠ main_v2) (h3 : b ≠ main_v3) (h4 : b ≠ main_v4)
    (h5 : b ≠ main_v5) (h6 : b ≠ main_v6) : VR m d b = m (d, dr b) :=
  (V2_ne m d b h1 h2 h3 h4 h5 h6).trans (V1_ne m d b h0 h00)

/-- The kernel's result is the reference's layers of the rows the reference takes. -/
theorem result_eq (hpre : InRange m) (d : Dev nD) :
    outAll (VR m) d = Plain.layers (Plain.rows (m (d, dr main_arg2)) (m (d, dr main_arg0))) (Plain.rows (m (d, dr main_arg3)) (m (d, dr main_arg1)))
      (m (d, dr main_arg4)) (m (d, dr main_arg5)) (m (d, dr main_arg6)) (m (d, dr main_arg7)) (m (d, dr main_arg8)) (m (d, dr main_arg9))
      (m (d, dr main_arg10)) (m (d, dr main_arg11)) (m (d, dr main_arg12)) (m (d, dr main_arg13)) (m (d, dr main_arg14)) (m (d, dr main_arg15)) := by
  funext i
  obtain ⟨k, z, rfl⟩ : ∃ (k : Fin 16384) (z : Fin 1), i = ix2 k z := ⟨i 0, i 1, eq_ix2 i⟩
  have ei : inBlk (ix2 k z) = ix2 ⟨k.val % 4096, Nat.mod_lt _ (by decide)⟩ z := funext fun a => match a with | 0 => rfl | 1 => rfl
  have ek : (ptOf (ix2 k z)).val * 4096 + k.val % 4096 = k.val := Nat.div_add_mod' k.val 4096
  refine Eq.trans ?_ (block_row k ⟨k.val % 4096, Nat.mod_lt _ (by decide)⟩ _ _ (blkOf (VR m) d 0 (ptOf (ix2 k z))) (blkOf (VR m) d 1 (ptOf (ix2 k z)))
    (fun j => (row0 (VR m) d _ _ j k ek).trans (cOut_apply m hpre d k j)) (fun j => (row1 (VR m) d _ _ j k ek).trans (uOut_apply m hpre d k j)) _ _ _ _ _ _ _ _ _ _ _ _ z)
  show outBlk (VR m) d (ptOf (ix2 k z)) (inBlk (ix2 k z)) = _
  rw [ei]
  unfold outBlk
  rw [whole2, whole3, whole4, whole5, whole6, whole7, whole8, whole9, whole10, whole11, whole12, whole13]
  rw [kept m d main_arg4 (by decide) (by decide) (by decide) (by decide) (by decide) (by decide) (by decide) (by decide),
    kept m d main_arg6 (by decide) (by decide) (by decide) (by decide) (by decide) (by decide) (by decide) (by decide),
    kept m d main_arg8 (by decide) (by decide) (by decide) (by decide) (by decide) (by decide) (by decide) (by decide),
    kept m d main_arg10 (by decide) (by decide) (by decide) (by decide) (by decide) (by decide) (by decide) (by decide),
    kept m d main_arg12 (by decide) (by decide) (by decide) (by decide) (by decide) (by decide) (by decide) (by decide),
    kept m d main_arg14 (by decide) (by decide) (by decide) (by decide) (by decide) (by decide) (by decide) (by decide)]
  rw [show VR m d main_v1 = _ from bias1 m d, show VR m d main_v2 = _ from bias2 m d, show VR m d main_v3 = _ from bias3 m d,
    show VR m d main_v4 = _ from bias4 m d, show VR m d main_v5 = _ from bias5 m d, show VR m d main_v6 = _ from bias6 m d]

end Cert.Proof.Twin

end
-- ==== Proof.lean ====
/-
  The claims. Both printed programs of the kernel have the same text, so the one run written for the idealized program,
  over any float values, is the run of both. The precondition says that every row number is in range. The reference's run
  is read off its list of operations.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

/-! ## The precondition -/

/-- A word that is at least 0 and below a million is below a million as a number. -/
theorem word_lt (w : BitVec 32) (h0 : IntOp.cmpi .sge w 0#32 = 1#1) (h1 : IntOp.cmpi .slt w 1000000#32 = 1#1) : w.toNat < 1000000 := by
  word_omega

/-- Every row number is in range where the precondition's word is 1. -/
theorem in_range {F : FTy → Type} [FloatOps F] (a0 a1 : IVec Pre_in_range.S16384 32) (a2 a3 a4 a5 a6 a7 a8 a9 a10 a11 a12 a13 a14 a15)
    (h : Cert.Pre_in_range.fn (F := F) a0 a1 a2 a3 a4 a5 a6 a7 a8 a9 a10 a11 a12 a13 a14 a15 = fun _ => 1#1) (j : Pre_in_range.S16384.Idx) :
    (a0 j).toNat < 1000000 ∧ (a1 j).toNat < 1000000 := by
  dsimp only [Cert.Pre_in_range.fn] at h
  haveI : Subsingleton Pre_in_range.S_.Idx := ⟨fun a b => funext fun i => i.elim0⟩
  have e := Host.reduce_andi_all _ _ _ _ (fun i => i.elim0) (congrFun h _) j
  obtain ⟨e, h3⟩ := IntOp.andi_eq_one.1 e
  obtain ⟨e, h2⟩ := IntOp.andi_eq_one.1 e
  obtain ⟨h0, h1⟩ := IntOp.andi_eq_one.1 e
  exact ⟨word_lt _ h0 h1, word_lt _ h2 h3⟩

/-! ## The kernel's frames -/

section Kernel

open Cert.KernelIdeal Cert.Proof.Twin

/-- An argument is at the end as at the start. -/
theorem arg_kept {F : FTy → Type} [FloatOps F] (m : (ℓ : Loc nD τ sig) → Buf (Elt F) ℓ) (d : Dev nD) (b : Ref sig .tc) (h0 : b ≠ main_v0_0) (h00 : b ≠ main_v0_1)
    (h1 : b ≠ main_v1) (h2 : b ≠ main_v2) (h3 : b ≠ main_v3) (h4 : b ≠ main_v4) (h5 : b ≠ main_v5) (h6 : b ≠ main_v6) (h7 : b ≠ main_v7) :
    V3 m d (dr b) = m (d, dr b) :=
  (V3_ne m d b h7).trans ((V2_ne m d b h1 h2 h3 h4 h5 h6).trans (V1_ne m d b h0 h00))

/-- Every execution leaves the result array at `outAll`, the arguments as they were and every semaphore at zero. -/
theorem kernel_run {F : FTy → Type} [FloatOps F] [∀ e, Nonempty (Elt F e)] (m : (ℓ : Loc nD τ sig) → Buf (Elt F) ℓ) (ρ : Dev nD → PrngReg) (hpre : InRange m) :
    θ_run (defs (F := F)) (threads (F := F)) ⟨m, fun _ => 0, ρ⟩ fun r => (∀ c : Dev nD,
      r.2.mem ((c.tc : Thread nD τ).loc main_v7) = outAll (VR m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0 :=
  (θ_run defs _ _).mono (fun _ h => ⟨fun c => ⟨(h.1 c (dr main_v7) (by decide)).trans (V3_out m c),
    (h.1 c (dr main_arg0) (by decide)).trans (arg_kept m c main_arg0 (by decide) (by decide) (by decide) (by decide) (by decide) (by decide) (by decide) (by decide) (by decide)),
    (h.1 c (dr main_arg1) (by decide)).trans (arg_kept m c main_arg1 (by decide) (by decide) (by decide) (by decide) (by decide) (by decide) (by decide) (by decide) (by decide)),
    (h.1 c (dr main_arg2) (by decide)).trans (arg_kept m c main_arg2 (by decide) (by decide) (by decide) (by decide) (by decide) (by decide) (by decide) (by decide) (by decide)),
    (h.1 c (dr main_arg3) (by decide)).trans (arg_kept m c main_arg3 (by decide) (by decide) (by decide) (by decide) (by decide) (by decide) (by decide) (by decide) (by decide)),
    (h.1 c (dr main_arg4) (by decide)).trans (arg_kept m c main_arg4 (by decide) (by decide) (by decide) (by decide) (by decide) (by decide) (by decide) (by decide) (by decide)),
    (h.1 c (dr main_arg5) (by decide)).trans (arg_kept m c main_arg5 (by decide) (by decide) (by decide) (by decide) (by decide) (by decide) (by decide) (by decide) (by decide)),
    (h.1 c (dr main_arg6) (by decide)).trans (arg_kept m c main_arg6 (by decide) (by decide) (by decide) (by decide) (by decide) (by decide) (by decide) (by decide) (by decide)),
    (h.1 c (dr main_arg7) (by decide)).trans (arg_kept m c main_arg7 (by decide) (by decide) (by decide) (by decide) (by decide) (by decide) (by decide) (by decide) (by decide)),
    (h.1 c (dr main_arg8) (by decide)).trans (arg_kept m c main_arg8 (by decide) (by decide) (by decide) (by decide) (by decide) (by decide) (by decide) (by decide) (by decide)),
    (h.1 c (dr main_arg9) (by decide)).trans (arg_kept m c main_arg9 (by decide) (by decide) (by decide) (by decide) (by decide) (by decide) (by decide) (by decide) (by decide)),
    (h.1 c (dr main_arg10) (by decide)).trans (arg_kept m c main_arg10 (by decide) (by decide) (by decide) (by decide) (by decide) (by decide) (by decide) (by decide) (by decide)),
    (h.1 c (dr main_arg11) (by decide)).trans (arg_kept m c main_arg11 (by decide) (by decide) (by decide) (by decide) (by decide) (by decide) (by decide) (by decide) (by decide)),
    (h.1 c (dr main_arg12) (by decide)).trans (arg_kept m c main_arg12 (by decide) (by decide) (by decide) (by decide) (by decide) (by decide) (by decide) (by decide) (by decide)),
    (h.1 c (dr main_arg13) (by decide)).trans (arg_kept m c main_arg13 (by decide) (by decide) (by decide) (by decide) (by decide) (by decide) (by decide) (by decide) (by decide)),
    (h.1 c (dr main_arg14) (by decide)).trans (arg_kept m c main_arg14 (by decide) (by decide) (by decide) (by decide) (by decide) (by decide) (by decide) (by decide) (by decide)),
    (h.1 c (dr main_arg15) (by decide)).trans (arg_kept m c main_arg15 (by decide) (by decide) (by decide) (by decide) (by decide) (by decide) (by decide) (by decide) (by decide))⟩, h.2⟩) (run_all m ρ hpre)

end Kernel

/-- The two printed programs have the same kernel bodies, -/
theorem bodies_same : ∀ p ℓ a, Cert.Kernel.defs₀ (F := Bits) p ℓ a = Cert.KernelIdeal.defs₀ (F := Bits) p ℓ a
  | .tc, ⟨0, _⟩, _ => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

/-- and so the same body table. -/
theorem defs_same : Cert.Kernel.defs (F := Bits) = Cert.KernelIdeal.defs (F := Bits) :=
  congrArg (fun D => Cert.KernelIdeal.sc.defs (Pipeline.defs Cert.KernelIdeal.pcfgs D)) (funext fun p => funext fun ℓ => funext fun a => bodies_same p ℓ a)

/-- The kernel as printed runs, and leaves its arguments and the semaphores as they were. -/
theorem frame_kernel : Cert.quiescent_Kernel := fun m ρ hpre => by
  rw [defs_same]
  exact (θ_run Cert.KernelIdeal.defs _ _).mono (fun _ h => ⟨fun c => (h.1 c).2, h.2⟩)
    (kernel_run (F := Bits) m ρ fun d j => in_range _ _ _ _ _ _ _ _ _ _ _ _ _ _ _ _ (hpre d) j)

/-- So does the idealized kernel, -/
theorem frame_kernel_ideal : Cert.quiescent_KernelIdeal := fun m ρ hpre =>
  (θ_run Cert.KernelIdeal.defs _ _).mono (fun _ h => ⟨fun c => (h.1 c).2, h.2⟩)
    (kernel_run (F := Ideal) m ρ fun d j => in_range _ _ _ _ _ _ _ _ _ _ _ _ _ _ _ _ (hpre d) j)

/-- and the reference, which has no semaphore, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- also under the kernel's precondition. -/
theorem frame_reference_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- The kernel and the reference compute the same extended reals. -/
theorem algebraic : Cert.algebraic_KernelIdeal_ReferenceIdeal := fun m ρ m' ρ' hpre hagree => by
  have hr : Twin.InRange m := fun d j => in_range _ _ _ _ _ _ _ _ _ _ _ _ _ _ _ _ (hpre d) j
  refine ⟨fun c => Twin.outAll (Twin.VR m) c, (θ_run Cert.KernelIdeal.defs _ _).mono (fun _ h => h.1) (kernel_run (F := Ideal) m ρ hr), ?_⟩
  refine (θ_run Cert.ReferenceIdeal.defs _ _).mono (fun _ h c => ⟨((h c).1.trans (Plain.out_eq m' c)).trans ?_, (h c).2⟩)
    (Cert.ReferenceIdeal.Value.run (F := Ideal) m' ρ')
  obtain ⟨e0, e1, e2, e3, e4, e5, e6, e7, e8, e9, e10, e11, e12, e13, e14, e15⟩ := hagree c
  rw [e0, e1, e2, e3, e4, e5, e6, e7, e8, e9, e10, e11, e12, e13, e14, e15]
  exact (Twin.result_eq m hr c).symm

/-- Every claim. -/
theorem claim : Cert.Claim := ⟨Cert.Kernel.Gen.facts, Cert.KernelIdeal.Gen.facts, Cert.ReferenceIdeal.Gen.facts, Cert.Pre_in_range.Gen.facts,
  frame_kernel, frame_kernel_ideal, frame_reference, frame_reference_in_range, trivial, algebraic⟩

end Cert.Proof

end
